-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 2, 4] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.blockN ⟨4, ![2, 256, 8, 64]⟩ ⟨4, ![2, 512, 8, 64]⟩ (Layout.meshBlock [2, 2, 4] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)

variable [Facts]

def fn {F : FTy → Type} [FloatOps F] (main_arg0 : FVec F S2x256x8x64 .bf16) (main_arg1 : FVec F S2x256x8x64 .bf16) (main_arg2 : FVec F S2x256x8x64 .bf16) : IVec S2x256x8x64 1 :=
  let main_v0 : FVec F S2x256x8x64 .bf16 := Host.absf main_arg0
  let main_cst : FVec F S_ .bf16 := constant S_ .bf16 0x7F80#16
  let main_v1 : FVec F S2x256x8x64 .bf16 := broadcastInDim S2x256x8x64 ![] bcast_S_S2x256x8x64 main_cst
  let main_v2 : IVec S2x256x8x64 1 := cmpf .olt main_v0 main_v1
  let main_v3 : FVec F S2x256x8x64 .bf16 := Host.absf main_arg1
  let main_cst_0 : FVec F S_ .bf16 := constant S_ .bf16 0x7F80#16
  let main_v4 : FVec F S2x256x8x64 .bf16 := broadcastInDim S2x256x8x64 ![] bcast_S_S2x256x8x64 main_cst_0
  let main_v5 : IVec S2x256x8x64 1 := cmpf .olt main_v3 main_v4
  let main_v6 : IVec S2x256x8x64 1 := andi main_v2 main_v5
  main_v6
-- ==== Pre_finite_ReferenceIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)

variable [Facts]

def fn {F : FTy → Type} [FloatOps F] (main_arg0 : FVec F S2x512x8x64 .bf16) (main_arg1 : FVec F S2x512x8x64 .bf16) (main_arg2 : FVec F S2x512x8x64 .bf16) : IVec S2x512x8x64 1 :=
  let main_v0 : FVec F S2x512x8x64 .bf16 := Host.absf main_arg0
  let main_cst : FVec F S_ .bf16 := constant S_ .bf16 0x7F80#16
  let main_v1 : FVec F S2x512x8x64 .bf16 := broadcastInDim S2x512x8x64 ![] bcast_S_S2x512x8x64 main_cst
  let main_v2 : IVec S2x512x8x64 1 := cmpf .olt main_v0 main_v1
  let main_v3 : FVec F S2x512x8x64 .bf16 := Host.absf main_arg1
  let main_cst_0 : FVec F S_ .bf16 := constant S_ .bf16 0x7F80#16
  let main_v4 : FVec F S2x512x8x64 .bf16 := broadcastInDim S2x512x8x64 ![] bcast_S_S2x512x8x64 main_cst_0
  let main_v5 : IVec S2x512x8x64 1 := cmpf .olt main_v3 main_v4
  let main_v6 : IVec S2x512x8x64 1 := andi main_v2 main_v5
  main_v6
-- ==== Kernel.lean ====
abbrev S2x256x8x64 : Shape := ⟨4, ![2, 256, 8, 64]⟩
abbrev S2x256x512 : Shape := ⟨3, ![2, 256, 512]⟩
abbrev S2x8x256x64 : Shape := ⟨4, ![2, 8, 256, 64]⟩
abbrev S2x256x1024 : Shape := ⟨3, ![2, 256, 1024]⟩
abbrev S8 : Shape := ⟨1, ![8]⟩
abbrev S_ : Shape := ⟨0, ![]⟩
abbrev S1x256x512 : Shape := ⟨3, ![1, 256, 512]⟩
abbrev S256x512 : Shape := ⟨2, ![256, 512]⟩
abbrev S1 : Shape := ⟨1, ![1]⟩
abbrev S1x32x1024 : Shape := ⟨3, ![1, 32, 1024]⟩
abbrev S32x1024 : Shape := ⟨2, ![32, 1024]⟩
abbrev S1x256x128 : Shape := ⟨3, ![1, 256, 128]⟩
abbrev S256x128 : Shape := ⟨2, ![256, 128]⟩
abbrev S1x1x256x64 : Shape := ⟨4, ![1, 1, 256, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S2x256x8x64, .bf16⟩
  | .hbm, ⟨1, _⟩ => ⟨S2x256x8x64, .bf16⟩
  | .hbm, ⟨2, _⟩ => ⟨S2x256x8x64, .bf16⟩
  | .hbm, ⟨3, _⟩ => ⟨S2x256x512, .bf16⟩
  | .hbm, ⟨4, _⟩ => ⟨S2x256x512, .bf16⟩
  | .hbm, ⟨5, _⟩ => ⟨S2x8x256x64, .bf16⟩
  | .hbm, ⟨6, _⟩ => ⟨S2x8x256x64, .f32⟩
  | .hbm, ⟨7, _⟩ => ⟨S2x256x8x64, .f32⟩
  | .local _ .vmem, ⟨0, _⟩ => ⟨S2x8x256x64, .bf16⟩
  | .local _ .vmem, ⟨1, _⟩ => ⟨S2x256x512, .bf16⟩
  | .local _ .vmem, ⟨2, _⟩ => ⟨S2x256x512, .bf16⟩
  | .local _ .vmem, ⟨3, _⟩ => ⟨S2x8x256x64, .f32⟩
  | .local _ .vmem, ⟨4, _⟩ => ⟨S2x256x1024, .bf16⟩
  | .local _ .vmem, ⟨5, _⟩ => ⟨S2x256x1024, .bf16⟩
  | _, _ => ⟨S2x256x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4_i32_6 : BitVec 32 := 4#32
  let v14 : BitVec 32 := Scalar.muli v10 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_9 : BitVec 32 := 8#32
  let v18 : BitVec 32 := Scalar.muli v11 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_14 : BitVec 32 := 0#32
  let v24 : BitVec 1 := Scalar.cmpi .eq v2 c0_i32_14
  let v25 : BitVec 32 := Scalar.extui v24
  let c0_i32_15 : BitVec 32 := 0#32
  let v26 : BitVec 1 := Scalar.cmpi .ne v25 c0_i32_15
  v26

def k0_dev3 (d0 : Dev nD) : Nat :=
  let c0_i32_35 : BitVec 32 := 0#32
  let c0_i32_33 : BitVec 32 := 0#32
  let c8_i32_34 : BitVec 32 := 8#32
  let v41 : BitVec 32 := Scalar.muli c0_i32_33 c8_i32_34
  let v42 : BitVec 32 := Scalar.addi c0_i32_35 v41
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_36 : BitVec 32 := 4#32
  let v43 : BitVec 32 := Scalar.muli v30 c4_i32_36
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v45 : BitVec 32 := Scalar.muli v8 c1_i32_37
  let v46 : BitVec 32 := Scalar.addi v44 v45
  v46.toNat
def k0_dev4 (d0 : Dev nD) : Nat :=
  let c0_i32_48 : BitVec 32 := 0#32
  let c0_i32_46 : BitVec 32 := 0#32
  let c8_i32_47 : BitVec 32 := 8#32
  let v55 : BitVec 32 := Scalar.muli c0_i32_46 c8_i32_47
  let v56 : BitVec 32 := Scalar.addi c0_i32_48 v55
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_49 : BitVec 32 := 4#32
  let v57 : BitVec 32 := Scalar.muli v30 c4_i32_49
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v59 : BitVec 32 := Scalar.muli v8 c1_i32_50
  let v60 : BitVec 32 := Scalar.addi v58 v59
  v60.toNat
def k0_dev5 (d0 : Dev nD) : Nat :=
  let c0_i32_60 : BitVec 32 := 0#32
  let c0_i32_58 : BitVec 32 := 0#32
  let c8_i32_59 : BitVec 32 := 8#32
  let v69 : BitVec 32 := Scalar.muli c0_i32_58 c8_i32_59
  let v70 : BitVec 32 := Scalar.addi c0_i32_60 v69
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_61 : BitVec 32 := 4#32
  let v71 : BitVec 32 := Scalar.muli v30 c4_i32_61
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v73 : BitVec 32 := Scalar.muli v8 c1_i32_62
  let v74 : BitVec 32 := Scalar.addi v72 v73
  v74.toNat
def k0_dev6 (d0 : Dev nD) : Nat :=
  let c0_i32_71 : BitVec 32 := 0#32
  let c0_i32_69 : BitVec 32 := 0#32
  let c8_i32_70 : BitVec 32 := 8#32
  let v83 : BitVec 32 := Scalar.muli c0_i32_69 c8_i32_70
  let v84 : BitVec 32 := Scalar.addi c0_i32_71 v83
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_72 : BitVec 32 := 4#32
  let v85 : BitVec 32 := Scalar.muli v30 c4_i32_72
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v87 : BitVec 32 := Scalar.muli v8 c1_i32_73
  let v88 : BitVec 32 := Scalar.addi v86 v87
  v88.toNat
def k0_dev7 (d0 : Dev nD) : Nat :=
  let c0_i32_83 : BitVec 32 := 0#32
  let c0_i32_81 : BitVec 32 := 0#32
  let c8_i32_82 : BitVec 32 := 8#32
  let v97 : BitVec 32 := Scalar.muli c0_i32_81 c8_i32_82
  let v98 : BitVec 32 := Scalar.addi c0_i32_83 v97
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_84 : BitVec 32 := 4#32
  let v99 : BitVec 32 := Scalar.muli v30 c4_i32_84
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v101 : BitVec 32 := Scalar.muli v8 c1_i32_85
  let v102 : BitVec 32 := Scalar.addi v100 v101
  v102.toNat
def k0_dev8 (d0 : Dev nD) : Nat :=
  let c0_i32_94 : BitVec 32 := 0#32
  let c0_i32_92 : BitVec 32 := 0#32
  let c8_i32_93 : BitVec 32 := 8#32
  let v111 : BitVec 32 := Scalar.muli c0_i32_92 c8_i32_93
  let v112 : BitVec 32 := Scalar.addi c0_i32_94 v111
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_95 : BitVec 32 := 4#32
  let v113 : BitVec 32 := Scalar.muli v30 c4_i32_95
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v115 : BitVec 32 := Scalar.muli v8 c1_i32_96
  let v116 : BitVec 32 := Scalar.addi v114 v115
  v116.toNat
def k0_dev9 (d0 : Dev nD) : Nat :=
  let c0_i32_105 : BitVec 32 := 0#32
  let c0_i32_103 : BitVec 32 := 0#32
  let c8_i32_104 : BitVec 32 := 8#32
  let v125 : BitVec 32 := Scalar.muli c0_i32_103 c8_i32_104
  let v126 : BitVec 32 := Scalar.addi c0_i32_105 v125
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_106 : BitVec 32 := 4#32
  let v127 : BitVec 32 := Scalar.muli v30 c4_i32_106
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v129 : BitVec 32 := Scalar.muli v8 c1_i32_107
  let v130 : BitVec 32 := Scalar.addi v128 v129
  v130.toNat
def k0_dev10 (d0 : Dev nD) : Nat :=
  let c0_i32_116 : BitVec 32 := 0#32
  let c0_i32_114 : BitVec 32 := 0#32
  let c8_i32_115 : BitVec 32 := 8#32
  let v139 : BitVec 32 := Scalar.muli c0_i32_114 c8_i32_115
  let v140 : BitVec 32 := Scalar.addi c0_i32_116 v139
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_117 : BitVec 32 := 4#32
  let v141 : BitVec 32 := Scalar.muli v30 c4_i32_117
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v143 : BitVec 32 := Scalar.muli v8 c1_i32_118
  let v144 : BitVec 32 := Scalar.addi v142 v143
  v144.toNat
def k0_dev11 (d0 : Dev nD) : Nat :=
  let c0_i32_152 : BitVec 32 := 0#32
  let c1_i32_150 : BitVec 32 := 1#32
  let c8_i32_151 : BitVec 32 := 8#32
  let v175 : BitVec 32 := Scalar.muli c1_i32_150 c8_i32_151
  let v176 : BitVec 32 := Scalar.addi c0_i32_152 v175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_153 : BitVec 32 := 4#32
  let v177 : BitVec 32 := Scalar.muli v5 c4_i32_153
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v179 : BitVec 32 := Scalar.muli v8 c1_i32_154
  let v180 : BitVec 32 := Scalar.addi v178 v179
  v180.toNat
def k0_dev12 (d0 : Dev nD) : Nat :=
  let c0_i32_199 : BitVec 32 := 0#32
  let c1_i32_197 : BitVec 32 := 1#32
  let c8_i32_198 : BitVec 32 := 8#32
  let v229 : BitVec 32 := Scalar.muli c1_i32_197 c8_i32_198
  let v230 : BitVec 32 := Scalar.addi c0_i32_199 v229
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_200 : BitVec 32 := 4#32
  let v231 : BitVec 32 := Scalar.muli v5 c4_i32_200
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v233 : BitVec 32 := Scalar.muli v8 c1_i32_201
  let v234 : BitVec 32 := Scalar.addi v232 v233
  v234.toNat
def k0_dev13 (d0 : Dev nD) : Nat :=
  let c0_i32_243 : BitVec 32 := 0#32
  let c1_i32_241 : BitVec 32 := 1#32
  let c8_i32_242 : BitVec 32 := 8#32
  let v283 : BitVec 32 := Scalar.muli c1_i32_241 c8_i32_242
  let v284 : BitVec 32 := Scalar.addi c0_i32_243 v283
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_244 : BitVec 32 := 4#32
  let v285 : BitVec 32 := Scalar.muli v5 c4_i32_244
  let v286 : BitVec 32 := Scalar.addi v284 v285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v287 : BitVec 32 := Scalar.muli v8 c1_i32_245
  let v288 : BitVec 32 := Scalar.addi v286 v287
  v288.toNat
def k0_dev14 (d0 : Dev nD) : Nat :=
  let c0_i32_287 : BitVec 32 := 0#32
  let c1_i32_285 : BitVec 32 := 1#32
  let c8_i32_286 : BitVec 32 := 8#32
  let v337 : BitVec 32 := Scalar.muli c1_i32_285 c8_i32_286
  let v338 : BitVec 32 := Scalar.addi c0_i32_287 v337
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_288 : BitVec 32 := 4#32
  let v339 : BitVec 32 := Scalar.muli v5 c4_i32_288
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v341 : BitVec 32 := Scalar.muli v8 c1_i32_289
  let v342 : BitVec 32 := Scalar.addi v340 v341
  v342.toNat
def k0_dev15 (d0 : Dev nD) : Nat :=
  let c0_i32_331 : BitVec 32 := 0#32
  let c1_i32_329 : BitVec 32 := 1#32
  let c8_i32_330 : BitVec 32 := 8#32
  let v391 : BitVec 32 := Scalar.muli c1_i32_329 c8_i32_330
  let v392 : BitVec 32 := Scalar.addi c0_i32_331 v391
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_332 : BitVec 32 := 4#32
  let v393 : BitVec 32 := Scalar.muli v5 c4_i32_332
  let v394 : BitVec 32 := Scalar.addi v392 v393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v395 : BitVec 32 := Scalar.muli v8 c1_i32_333
  let v396 : BitVec 32 := Scalar.addi v394 v395
  v396.toNat
def k0_dev16 (d0 : Dev nD) : Nat :=
  let c0_i32_379 : BitVec 32 := 0#32
  let c1_i32_377 : BitVec 32 := 1#32
  let c8_i32_378 : BitVec 32 := 8#32
  let v445 : BitVec 32 := Scalar.muli c1_i32_377 c8_i32_378
  let v446 : BitVec 32 := Scalar.addi c0_i32_379 v445
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_380 : BitVec 32 := 4#32
  let v447 : BitVec 32 := Scalar.muli v5 c4_i32_380
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v449 : BitVec 32 := Scalar.muli v8 c1_i32_381
  let v450 : BitVec 32 := Scalar.addi v448 v449
  v450.toNat
def k0_dev17 (d0 : Dev nD) : Nat :=
  let c0_i32_427 : BitVec 32 := 0#32
  let c1_i32_425 : BitVec 32 := 1#32
  let c8_i32_426 : BitVec 32 := 8#32
  let v499 : BitVec 32 := Scalar.muli c1_i32_425 c8_i32_426
  let v500 : BitVec 32 := Scalar.addi c0_i32_427 v499
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_428 : BitVec 32 := 4#32
  let v501 : BitVec 32 := Scalar.muli v5 c4_i32_428
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v503 : BitVec 32 := Scalar.muli v8 c1_i32_429
  let v504 : BitVec 32 := Scalar.addi v502 v503
  v504.toNat
def k0_dev18 (d0 : Dev nD) : Nat :=
  let c0_i32_475 : BitVec 32 := 0#32
  let c1_i32_473 : BitVec 32 := 1#32
  let c8_i32_474 : BitVec 32 := 8#32
  let v553 : BitVec 32 := Scalar.muli c1_i32_473 c8_i32_474
  let v554 : BitVec 32 := Scalar.addi c0_i32_475 v553
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_476 : BitVec 32 := 4#32
  let v555 : BitVec 32 := Scalar.muli v5 c4_i32_476
  let v556 : BitVec 32 := Scalar.addi v554 v555
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_477 : BitVec 32 := 1#32
  let v557 : BitVec 32 := Scalar.muli v8 c1_i32_477
  let v558 : BitVec 32 := Scalar.addi v556 v557
  v558.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_16 : BitVec 32 := 1#32
  let v27 : BitVec 1 := Scalar.cmpi .eq v2 c1_i32_16
  let v28 : BitVec 32 := Scalar.extui v27
  let c0_i32_17 : BitVec 32 := 0#32
  let v29 : BitVec 1 := Scalar.cmpi .ne v28 c0_i32_17
  v29

def k0_dev19 (d0 : Dev nD) : Nat :=
  let c0_i32_34 : BitVec 32 := 0#32
  let c1_i32_32 : BitVec 32 := 1#32
  let c8_i32_33 : BitVec 32 := 8#32
  let v41 : BitVec 32 := Scalar.muli c1_i32_32 c8_i32_33
  let v42 : BitVec 32 := Scalar.addi c0_i32_34 v41
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_35 : BitVec 32 := 4#32
  let v43 : BitVec 32 := Scalar.muli v30 c4_i32_35
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v45 : BitVec 32 := Scalar.muli v8 c1_i32_36
  let v46 : BitVec 32 := Scalar.addi v44 v45
  v46.toNat
def k0_dev20 (d0 : Dev nD) : Nat :=
  let c0_i32_47 : BitVec 32 := 0#32
  let c1_i32_45 : BitVec 32 := 1#32
  let c8_i32_46 : BitVec 32 := 8#32
  let v55 : BitVec 32 := Scalar.muli c1_i32_45 c8_i32_46
  let v56 : BitVec 32 := Scalar.addi c0_i32_47 v55
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_48 : BitVec 32 := 4#32
  let v57 : BitVec 32 := Scalar.muli v30 c4_i32_48
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v59 : BitVec 32 := Scalar.muli v8 c1_i32_49
  let v60 : BitVec 32 := Scalar.addi v58 v59
  v60.toNat
def k0_dev21 (d0 : Dev nD) : Nat :=
  let c0_i32_59 : BitVec 32 := 0#32
  let c1_i32_57 : BitVec 32 := 1#32
  let c8_i32_58 : BitVec 32 := 8#32
  let v69 : BitVec 32 := Scalar.muli c1_i32_57 c8_i32_58
  let v70 : BitVec 32 := Scalar.addi c0_i32_59 v69
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_60 : BitVec 32 := 4#32
  let v71 : BitVec 32 := Scalar.muli v30 c4_i32_60
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v73 : BitVec 32 := Scalar.muli v8 c1_i32_61
  let v74 : BitVec 32 := Scalar.addi v72 v73
  v74.toNat
def k0_dev22 (d0 : Dev nD) : Nat :=
  let c0_i32_70 : BitVec 32 := 0#32
  let c1_i32_68 : BitVec 32 := 1#32
  let c8_i32_69 : BitVec 32 := 8#32
  let v83 : BitVec 32 := Scalar.muli c1_i32_68 c8_i32_69
  let v84 : BitVec 32 := Scalar.addi c0_i32_70 v83
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_71 : BitVec 32 := 4#32
  let v85 : BitVec 32 := Scalar.muli v30 c4_i32_71
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v87 : BitVec 32 := Scalar.muli v8 c1_i32_72
  let v88 : BitVec 32 := Scalar.addi v86 v87
  v88.toNat
def k0_dev23 (d0 : Dev nD) : Nat :=
  let c0_i32_82 : BitVec 32 := 0#32
  let c1_i32_80 : BitVec 32 := 1#32
  let c8_i32_81 : BitVec 32 := 8#32
  let v97 : BitVec 32 := Scalar.muli c1_i32_80 c8_i32_81
  let v98 : BitVec 32 := Scalar.addi c0_i32_82 v97
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_83 : BitVec 32 := 4#32
  let v99 : BitVec 32 := Scalar.muli v30 c4_i32_83
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v101 : BitVec 32 := Scalar.muli v8 c1_i32_84
  let v102 : BitVec 32 := Scalar.addi v100 v101
  v102.toNat
def k0_dev24 (d0 : Dev nD) : Nat :=
  let c0_i32_93 : BitVec 32 := 0#32
  let c1_i32_91 : BitVec 32 := 1#32
  let c8_i32_92 : BitVec 32 := 8#32
  let v111 : BitVec 32 := Scalar.muli c1_i32_91 c8_i32_92
  let v112 : BitVec 32 := Scalar.addi c0_i32_93 v111
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_94 : BitVec 32 := 4#32
  let v113 : BitVec 32 := Scalar.muli v30 c4_i32_94
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v115 : BitVec 32 := Scalar.muli v8 c1_i32_95
  let v116 : BitVec 32 := Scalar.addi v114 v115
  v116.toNat
def k0_dev25 (d0 : Dev nD) : Nat :=
  let c0_i32_104 : BitVec 32 := 0#32
  let c1_i32_102 : BitVec 32 := 1#32
  let c8_i32_103 : BitVec 32 := 8#32
  let v125 : BitVec 32 := Scalar.muli c1_i32_102 c8_i32_103
  let v126 : BitVec 32 := Scalar.addi c0_i32_104 v125
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_105 : BitVec 32 := 4#32
  let v127 : BitVec 32 := Scalar.muli v30 c4_i32_105
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v129 : BitVec 32 := Scalar.muli v8 c1_i32_106
  let v130 : BitVec 32 := Scalar.addi v128 v129
  v130.toNat
def k0_dev26 (d0 : Dev nD) : Nat :=
  let c0_i32_115 : BitVec 32 := 0#32
  let c1_i32_113 : BitVec 32 := 1#32
  let c8_i32_114 : BitVec 32 := 8#32
  let v139 : BitVec 32 := Scalar.muli c1_i32_113 c8_i32_114
  let v140 : BitVec 32 := Scalar.addi c0_i32_115 v139
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_18 v5
  let c4_i32_116 : BitVec 32 := 4#32
  let v141 : BitVec 32 := Scalar.muli v30 c4_i32_116
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v143 : BitVec 32 := Scalar.muli v8 c1_i32_117
  let v144 : BitVec 32 := Scalar.addi v142 v143
  v144.toNat
def k0_dev27 (d0 : Dev nD) : Nat :=
  let c0_i32_152 : BitVec 32 := 0#32
  let c0_i32_150 : BitVec 32 := 0#32
  let c8_i32_151 : BitVec 32 := 8#32
  let v175 : BitVec 32 := Scalar.muli c0_i32_150 c8_i32_151
  let v176 : BitVec 32 := Scalar.addi c0_i32_152 v175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_153 : BitVec 32 := 4#32
  let v177 : BitVec 32 := Scalar.muli v5 c4_i32_153
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v179 : BitVec 32 := Scalar.muli v8 c1_i32_154
  let v180 : BitVec 32 := Scalar.addi v178 v179
  v180.toNat
def k0_dev28 (d0 : Dev nD) : Nat :=
  let c0_i32_199 : BitVec 32 := 0#32
  let c0_i32_197 : BitVec 32 := 0#32
  let c8_i32_198 : BitVec 32 := 8#32
  let v229 : BitVec 32 := Scalar.muli c0_i32_197 c8_i32_198
  let v230 : BitVec 32 := Scalar.addi c0_i32_199 v229
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_200 : BitVec 32 := 4#32
  let v231 : BitVec 32 := Scalar.muli v5 c4_i32_200
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v233 : BitVec 32 := Scalar.muli v8 c1_i32_201
  let v234 : BitVec 32 := Scalar.addi v232 v233
  v234.toNat
def k0_dev29 (d0 : Dev nD) : Nat :=
  let c0_i32_243 : BitVec 32 := 0#32
  let c0_i32_241 : BitVec 32 := 0#32
  let c8_i32_242 : BitVec 32 := 8#32
  let v283 : BitVec 32 := Scalar.muli c0_i32_241 c8_i32_242
  let v284 : BitVec 32 := Scalar.addi c0_i32_243 v283
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_244 : BitVec 32 := 4#32
  let v285 : BitVec 32 := Scalar.muli v5 c4_i32_244
  let v286 : BitVec 32 := Scalar.addi v284 v285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v287 : BitVec 32 := Scalar.muli v8 c1_i32_245
  let v288 : BitVec 32 := Scalar.addi v286 v287
  v288.toNat
def k0_dev30 (d0 : Dev nD) : Nat :=
  let c0_i32_287 : BitVec 32 := 0#32
  let c0_i32_285 : BitVec 32 := 0#32
  let c8_i32_286 : BitVec 32 := 8#32
  let v337 : BitVec 32 := Scalar.muli c0_i32_285 c8_i32_286
  let v338 : BitVec 32 := Scalar.addi c0_i32_287 v337
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_288 : BitVec 32 := 4#32
  let v339 : BitVec 32 := Scalar.muli v5 c4_i32_288
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v341 : BitVec 32 := Scalar.muli v8 c1_i32_289
  let v342 : BitVec 32 := Scalar.addi v340 v341
  v342.toNat
def k0_dev31 (d0 : Dev nD) : Nat :=
  let c0_i32_331 : BitVec 32 := 0#32
  let c0_i32_329 : BitVec 32 := 0#32
  let c8_i32_330 : BitVec 32 := 8#32
  let v391 : BitVec 32 := Scalar.muli c0_i32_329 c8_i32_330
  let v392 : BitVec 32 := Scalar.addi c0_i32_331 v391
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_332 : BitVec 32 := 4#32
  let v393 : BitVec 32 := Scalar.muli v5 c4_i32_332
  let v394 : BitVec 32 := Scalar.addi v392 v393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v395 : BitVec 32 := Scalar.muli v8 c1_i32_333
  let v396 : BitVec 32 := Scalar.addi v394 v395
  v396.toNat
def k0_dev32 (d0 : Dev nD) : Nat :=
  let c0_i32_379 : BitVec 32 := 0#32
  let c0_i32_377 : BitVec 32 := 0#32
  let c8_i32_378 : BitVec 32 := 8#32
  let v445 : BitVec 32 := Scalar.muli c0_i32_377 c8_i32_378
  let v446 : BitVec 32 := Scalar.addi c0_i32_379 v445
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_380 : BitVec 32 := 4#32
  let v447 : BitVec 32 := Scalar.muli v5 c4_i32_380
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v449 : BitVec 32 := Scalar.muli v8 c1_i32_381
  let v450 : BitVec 32 := Scalar.addi v448 v449
  v450.toNat
def k0_dev33 (d0 : Dev nD) : Nat :=
  let c0_i32_427 : BitVec 32 := 0#32
  let c0_i32_425 : BitVec 32 := 0#32
  let c8_i32_426 : BitVec 32 := 8#32
  let v499 : BitVec 32 := Scalar.muli c0_i32_425 c8_i32_426
  let v500 : BitVec 32 := Scalar.addi c0_i32_427 v499
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_428 : BitVec 32 := 4#32
  let v501 : BitVec 32 := Scalar.muli v5 c4_i32_428
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v503 : BitVec 32 := Scalar.muli v8 c1_i32_429
  let v504 : BitVec 32 := Scalar.addi v502 v503
  v504.toNat
def k0_dev34 (d0 : Dev nD) : Nat :=
  let c0_i32_475 : BitVec 32 := 0#32
  let c0_i32_473 : BitVec 32 := 0#32
  let c8_i32_474 : BitVec 32 := 8#32
  let v553 : BitVec 32 := Scalar.muli c0_i32_473 c8_i32_474
  let v554 : BitVec 32 := Scalar.addi c0_i32_475 v553
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_476 : BitVec 32 := 4#32
  let v555 : BitVec 32 := Scalar.muli v5 c4_i32_476
  let v556 : BitVec 32 := Scalar.addi v554 v555
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_477 : BitVec 32 := 1#32
  let v557 : BitVec 32 := Scalar.muli v8 c1_i32_477
  let v558 : BitVec 32 := Scalar.addi v556 v557
  v558.toNat
abbrev stage0_0 : Fin 1 → Memref sig .tc .vmem S2x8x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x8x64 : Shape := ⟨4, ![2, 512, 8, 64]⟩
abbrev S2x8x512x512 : Shape := ⟨4, ![2, 8, 512, 512]⟩
abbrev S_ : Shape := ⟨0, ![]⟩
abbrev S2x8x512 : Shape := ⟨3, ![2, 8, 512]⟩
abbrev S2x8x512x1 : Shape := ⟨4, ![2, 8, 512, 1]⟩
abbrev S2x8x64x512 : Shape := ⟨4, ![2, 8, 64, 512]⟩

abbrev nBuf : Space → Nat
  | .hbm => 23
  | .vmem => 0
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S2x512x8x64, .f32⟩
  | .hbm, ⟨4, _⟩ => ⟨S2x512x8x64, .f32⟩
  | .hbm, ⟨5, _⟩ => ⟨S2x512x8x64, .f32⟩
  | .hbm, ⟨6, _⟩ => ⟨S2x8x512x512, .f32⟩
  | .hbm, ⟨7, _⟩ => ⟨S_, .f32⟩
  | .hbm, ⟨8, _⟩ => ⟨S2x8x512x512, .f32⟩
  | .hbm, ⟨9, _⟩ => ⟨S2x8x512x512, .f32⟩
  | .hbm, ⟨10, _⟩ => ⟨S_, .f32⟩
  | .hbm, ⟨11, _⟩ => ⟨S2x8x512, .f32⟩
  | .hbm, ⟨12, _⟩ => ⟨S2x8x512x1, .f32⟩
  | .hbm, ⟨13, _⟩ => ⟨S2x8x512x512, .f32⟩
  | .hbm, ⟨14, _⟩ => ⟨S2x8x512x512, .f32⟩
  | .hbm, ⟨15, _⟩ => ⟨S2x8x512x512, .f32⟩
  | .hbm, ⟨16, _⟩ => ⟨S_, .f32⟩
  | .hbm, ⟨17, _⟩ => ⟨S2x8x512, .f32⟩
  | .hbm, ⟨18, _⟩ => ⟨S2x8x512x1, .f32⟩
  | .hbm, ⟨19, _⟩ => ⟨S2x8x512x512, .f32⟩
  | .hbm, ⟨20, _⟩ => ⟨S2x8x512x512, .f32⟩
  | .hbm, ⟨21, _⟩ => ⟨S2x8x64x512, .f32⟩
  | .hbm, ⟨22, _⟩ => ⟨S2x512x8x64, .f32⟩
  | _, _ => ⟨S2x512x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Prog.lean ====
/- The kernel's body once more, written over the batch entry `b`, the chunk `c` and the head pair `hh`
   in place of the printed text's constants, each stretch of it taking the rest of the body as its
   last argument. The printed branches are instances of `runK` (`branch0_eq`, `branch1_eq`). -/
module

public import proofs.«01_k».proof.Proof.Gen.KernelIdeal.Skeleton

@[expose] public section

noncomputable section

namespace Cert.KernelIdeal.Att

open Cert.KernelIdeal Cert.KernelIdeal.Gen
open Idealize.ShloMosaic Idealize.SL.Sem

variable {F : FTy → Type} [FloatOps F]

/-- The programs of a kernel body. -/
abbrev Body (F : FTy → Type) : Type 1 := Prog (TpuEff nD τ sig (Elt F) Λ₀ .tc) PUnit

/-! ## The rectangles -/

/-- Rows `32 c … 32 c + 31` of batch entry `b` of a packed buffer: what one transfer carries. -/
theorem inbChunk (b : Fin 2) (c : Fin 8) :
    ∀ a, (![b.val, 32 * c.val, 0] : Fin 3 → Nat) a + S1x32x1024.size a ≤ S2x256x1024.size a := by
  revert b c; decide

/-- Half `j` (keys, values) of batch entry `b` of a packed buffer: what one store of the packing writes. -/
theorem inbHalf (b j : Fin 2) :
    ∀ a, (![b.val, 0, 512 * j.val] : Fin 3 → Nat) a + S1x256x512.size a ≤ S2x256x1024.size a := by
  revert b j; decide

/-- Batch entry `b` of an array of keys or values. -/
theorem inbSrc (b : Fin 2) :
    ∀ a, (![b.val, 0, 0] : Fin 3 → Nat) a + S1x256x512.size a ≤ S2x256x512.size a := by
  revert b; decide

/-- The columns of head pair `hh` of half `j` of batch entry `b` of a packed buffer. -/
theorem inbPair (b j : Fin 2) (hh : Fin 4) :
    ∀ a, (![b.val, 0, 512 * j.val + 128 * hh.val] : Fin 3 → Nat) a + S1x256x128.size a ≤ S2x256x1024.size a := by
  revert b j hh; decide

/-- Head `h` of batch entry `b` of the queries and of the result. -/
theorem inbHead (b : Fin 2) (h : Fin 8) :
    ∀ a, (![b.val, h.val, 0, 0] : Fin 4 → Nat) a + S1x1x256x64.size a ≤ S2x8x256x64.size a := by
  revert b h; decide

/-- One cell of an array of eight. -/
theorem inbCell (c : Fin 8) : ∀ a, (![c.val] : Fin 1 → Nat) a + S1.size a ≤ S8.size a := by
  revert c; decide

abbrev chunkR (b : Fin 2) (c : Fin 8) : Rect S2x256x1024 := Rect.unit (s := S2x256x1024) ![b.val, 32 * c.val, 0] S1x32x1024.size (inbChunk b c)
abbrev halfR (b j : Fin 2) : Rect S2x256x1024 := Rect.unit (s := S2x256x1024) ![b.val, 0, 512 * j.val] S1x256x512.size (inbHalf b j)
abbrev srcR (b : Fin 2) : Rect S2x256x512 := Rect.unit (s := S2x256x512) ![b.val, 0, 0] S1x256x512.size (inbSrc b)
abbrev pairR (b j : Fin 2) (hh : Fin 4) : Rect S2x256x1024 :=
  Rect.unit (s := S2x256x1024) ![b.val, 0, 512 * j.val + 128 * hh.val] S1x256x128.size (inbPair b j hh)
abbrev headR (b : Fin 2) (h : Fin 8) : Rect S2x8x256x64 := Rect.unit (s := S2x8x256x64) ![b.val, h.val, 0, 0] S1x1x256x64.size (inbHead b h)

theorem wordsChunk (b : Fin 2) (c : Fin 8) : (chunkR b c).WholeWords (EltTy.packing .bf16) := by
  revert b c; decide

theorem packedHalf (b j : Fin 2) : (halfR b j).PackedRows (EltTy.packing .bf16) := by
  revert b j; decide

theorem slicesHead (i : Fin 2) : S256x128.Slices ![0, 64 * i.val] S256x64 := by
  revert i; decide

/-- Head `i` of pair `hh`. -/
abbrev headOf (hh : Fin 4) (i : Fin 2) : Fin 8 := ⟨2 * hh.val + i.val, by omega⟩

/-- The batch entry and the head pair the local work of step `c` is for. -/
abbrev unitB (c : Fin 8) : Fin 2 := ⟨c.val / 4, by omega⟩
abbrev unitH (c : Fin 8) : Fin 4 := ⟨c.val % 4, by omega⟩
abbrev unitOf (b : Fin 2) (hh : Fin 4) : Fin 8 := ⟨4 * b.val + hh.val, by omega⟩

/-! ## The arithmetic of one head -/

/-- A pair of heads' columns as a matrix, and one head of it. -/
def pairOf (w : Vec F S1x256x128 .bf16) : FVec F S256x128 .bf16 := shapeCast S256x128 w shapeCasts_S1x256x128_S256x128
def headAt (i : Fin 2) (w : Vec F S1x256x128 .bf16) : FVec F S256x64 .bf16 :=
  extractStridedSlice S256x64 ![0, 64 * i.val] (pairOf w) (slicesHead i)
def queryOf (w : Vec F S1x1x256x64 .bf16) : FVec F S256x64 .bf16 := shapeCast S256x64 w shapeCasts_S1x1x256x64_S256x64

/-- The exponentials of the scaled scores of queries against keys. -/
def weights (q k : FVec F S256x64 .bf16) : FVec F S256x256 .f32 :=
  exp (mulf (matmul dot_S256x64_S256x64_S256x256_1_1_0_0_n_n none q k (constant S256x256 .f32 0x00000000#32))
    (broadcast S256x256 (Scalar.ofBits .f32 0x3E000000#32)))

/-- Their sums over the keys, and their products with the values. -/
def norms (p : FVec F S256x256 .f32) : FVec F S256x1 .f32 :=
  shapeCast S256x1 (multiReduction .add [1] S256 p 0x00000000#32 reduces_S256x256_S256 (.inl rfl) rfl) shapeCasts_S256_S256x1
def mixed (p : FVec F S256x256 .f32) (v : FVec F S256x64 .bf16) : FVec F S256x64 .f32 :=
  matmul dot_S256x256_S256x64_S256x64_1_0_0_1_n_n none (truncf .bf16 p bitsLt_bf16_f32) v (constant S256x64 .f32 0x00000000#32)

/-- What is stored for one head: the two halves of the keys put together. -/
def headOut (i : Fin 2) (q : Vec F S1x1x256x64 .bf16) (kl vl kr vr : Vec F S1x256x128 .bf16) : FVec F S1x1x256x64 .f32 :=
  shapeCast S1x1x256x64
    (divf (addf (mixed (weights (queryOf q) (headAt i kl)) (headAt i vl)) (mixed (weights (queryOf q) (headAt i kr)) (headAt i vr)))
      (broadcastTo S256x64 (addf (norms (weights (queryOf q) (headAt i kl))) (norms (weights (queryOf q) (headAt i kr))))
        broadcasts_S256x1_S256x64)) shapeCasts_S256x64_S1x1x256x64

/-- What a packing store writes: what it read, one reshape to the matrix and one back. -/
def packed (w : Vec F S1x256x512 .bf16) : FVec F S1x256x512 .bf16 :=
  shapeCast S1x256x512 (shapeCast S256x512 w shapeCasts_S1x256x512_S256x512) shapeCasts_S256x512_S1x256x512

/-- What the local work of one step reads: a head pair's keys and values, and its two heads' queries. -/
structure Loaded (F : FTy → Type) where
  kl : Vec F S1x256x128 .bf16
  vl : Vec F S1x256x128 .bf16
  q0 : Vec F S1x1x256x64 .bf16
  q1 : Vec F S1x1x256x64 .bf16

/-! ## The stretches of the body -/

section
variable (arg0 : Memref sig .tc .vmem S2x8x256x64 .bf16)
  (arg1 : Memref sig .tc .vmem S2x256x512 .bf16) (arg2 : Memref sig .tc .vmem S2x256x512 .bf16)
  (arg3 : Memref sig .tc .vmem S2x8x256x64 .f32)
  (arg4 : Memref sig .tc .vmem S2x256x1024 .bf16) (harg4 : arg4.IsWhole)
  (arg5 : Memref sig .tc .vmem S2x256x1024 .bf16) (harg5 : arg5.IsWhole)

/-- A chunk of a packed buffer, as a transfer addresses it. -/
abbrev chunk (m : Memref sig .tc .vmem S2x256x1024 .bf16) (b : Fin 2) (c : Fin 8) : Memref sig .tc .vmem S32x1024 .bf16 :=
  (m.slice (chunkR b c) (fun _ => rfl)).squeeze S32x1024 squeezes_S1x32x1024_S32x1024

theorem chunk_words {m : Memref sig .tc .vmem S2x256x1024 .bf16} (hm : m.IsWhole) (b : Fin 2) (c : Fin 8) :
    (chunk m b c).view.WordExact := (hm.wordExact_slice rfl _ (wordsChunk b c)).reshape _ _

/-- A semaphore of an array of eight. -/
abbrev cellAt (s : DmaSems sig S8) (c : Fin 8) : DmaSem sig :=
  ((s.slice (Rect.unit (s := S8) ![c.val] S1.size (inbCell c))).squeeze S_ squeezes_S1_S_).sem

/-- Copies one half of batch entry `b` into the packed buffer. -/
def packHalfK (src : Memref sig .tc .vmem S2x256x512 .bf16) (b j : Fin 2) (k : Body F) : Body F :=
  .op (.load src (srcR b).toLoadRect (View.loadsAt_vmem h_S1x256x512)) fun w =>
  .op (.load arg4 (halfR b j).toLoadRect (View.loadsAt_vmem h_S1x256x512)) fun _ =>
  .op (.store arg4 (halfR b j) (packed w) Finset.univ
    (View.stores_vmem h_S1x256x512 (harg4.storeExact_slice rfl _ (packedHalf b j)) (fun _ => rfl)) (.inl rfl)) fun _ => k

/-- Copies batch entry `b` of the keys and of the values into the packed buffer. -/
def packK (b : Fin 2) (k : Body F) : Body F :=
  packHalfK arg4 harg4 arg1 b 0 (packHalfK arg4 harg4 arg2 b 1 k)

/-- Starts the transfer of chunk `c` of batch entry `b` from `src` to device `dst`'s receive buffer. -/
def startK (src : Memref sig .tc .vmem S2x256x1024 .bf16) (hsrc : src.IsWhole) (sS sR : DmaSems sig S8)
    (dst : Dev nD) (b : Fin 2) (c : Fin 8) (k : Body F) : Body F :=
  .op (.enqueueDma (chunk src b c) (.remote (Dev.tc dst) (chunk arg5 b c) (.dma (cellAt sS c))) (.dma (cellAt sR c))
    (chunk_words hsrc b c) (chunk_words harg5 b c) ⟨⟨rfl, Or.inl rfl⟩, trivial⟩) fun _ => k

/-- Waits for a chunk's transfer on cell `c` of `s`. -/
def waitK (s : DmaSems sig S8) (src dst : Memref sig .tc .vmem S2x256x1024 .bf16) (hsrc : src.IsWhole) (hdst : dst.IsWhole)
    (b : Fin 2) (c : Fin 8) (k : Body F) : Body F :=
  .op (.waitDma2 (cellAt s c) (chunk src b c) (chunk dst b c) (chunk_words hsrc b c) (chunk_words hdst b c)) fun _ => k

/-- Reads a head pair's keys, values and queries. -/
def localK (b : Fin 2) (hh : Fin 4) (k : Loaded F → Body F) : Body F :=
  .op (.load arg4 (pairR b 0 hh).toLoadRect (View.loadsAt_vmem h_S1x256x128)) fun kl =>
  .op (.load arg4 (pairR b 1 hh).toLoadRect (View.loadsAt_vmem h_S1x256x128)) fun vl =>
  .op (.load arg0 (headR b (headOf hh 0)).toLoadRect (View.loadsAt_vmem h_S1x1x256x64)) fun q0 =>
  .op (.load arg0 (headR b (headOf hh 1)).toLoadRect (View.loadsAt_vmem h_S1x1x256x64)) fun q1 =>
  k ⟨kl, vl, q0, q1⟩

/-- Stores one head of the result, having read what was there. -/
def outK (b : Fin 2) (h : Fin 8) (w : FVec F S1x1x256x64 .f32) (k : Body F) : Body F :=
  .op (.load arg3 (headR b h).toLoadRect (View.loadsAt_vmem h_S1x1x256x64)) fun _ =>
  .op (.store arg3 (headR b h) w Finset.univ (View.stores_vmem_bits_univ h_S1x1x256x64 rfl) (.inl rfl)) fun _ => k

/-- Reads a head pair's received keys and values and stores its two heads of the result. -/
def remoteK (b : Fin 2) (hh : Fin 4) (u : Loaded F) (k : Body F) : Body F :=
  .op (.load arg5 (pairR b 0 hh).toLoadRect (View.loadsAt_vmem h_S1x256x128)) fun kr =>
  .op (.load arg5 (pairR b 1 hh).toLoadRect (View.loadsAt_vmem h_S1x256x128)) fun vr =>
  outK arg3 b (headOf hh 0) (headOut 0 u.q0 u.kl u.vl kr vr)
    (outK arg3 b (headOf hh 1) (headOut 1 u.q1 u.kl u.vl kr vr) k)

/-- The four head pairs of batch entry `b`. -/
def batchK (b : Fin 2) (us : Fin 8 → Loaded F) (k : Body F) : Body F :=
  remoteK arg3 arg5 b 0 (us (unitOf b 0)) (remoteK arg3 arg5 b 1 (us (unitOf b 1))
    (remoteK arg3 arg5 b 2 (us (unitOf b 2)) (remoteK arg3 arg5 b 3 (us (unitOf b 3)) k)))

/-- One thing for each of the eight chunks, in order. -/
def eachK (f : Fin 8 → Body F → Body F) (k : Body F) : Body F :=
  f 0 (f 1 (f 2 (f 3 (f 4 (f 5 (f 6 (f 7 k)))))))

variable (ysend yrecv fsend frecv : DmaSems sig S8)

/-- Step `c`: take chunk `c` in, pass it on, and read for the local work. -/
def stepK (mx : Fin 2) (xd : Dev nD) (c : Fin 8) (k : Loaded F → Body F) : Body F :=
  waitK yrecv arg4 arg5 harg4 harg5 mx c
    (startK arg5 harg5 arg5 harg5 fsend frecv xd mx c (localK arg0 arg4 (unitB c) (unitH c) k))

/-- The eight steps. -/
def stepsK (mx : Fin 2) (xd : Dev nD) (k : (Fin 8 → Loaded F) → Body F) : Body F :=
  let s := stepK arg0 arg4 harg4 arg5 harg5 yrecv fsend frecv mx xd
  s 0 fun u0 => s 1 fun u1 => s 2 fun u2 => s 3 fun u3 => s 4 fun u4 => s 5 fun u5 => s 6 fun u6 => s 7 fun u7 =>
    k ![u0, u1, u2, u3, u4, u5, u6, u7]

/-- The whole of one branch: the branch of the devices at `x = mx`, `ox` the other place. -/
def runK (mx ox : Fin 2) (yd xd : Dev nD) (k : Body F) : Body F :=
  packK arg1 arg2 arg4 harg4 mx <|
  eachK (fun c => startK arg5 harg5 arg4 harg4 ysend yrecv yd mx c) <|
  packK arg1 arg2 arg4 harg4 ox <|
  stepsK arg0 arg4 harg4 arg5 harg5 yrecv fsend frecv mx xd fun us =>
  batchK arg3 arg5 mx us <|
  eachK (fun c => waitK frecv arg5 arg5 harg5 harg5 ox c) <|
  batchK arg3 arg5 ox us <|
  eachK (fun c => waitK ysend arg5 arg4 harg5 harg4 mx c) <|
  eachK (fun c => waitK fsend arg5 arg5 harg5 harg5 mx c) k

end

end Cert.KernelIdeal.Att

end
-- ==== Proof.Branch.lean ====
/- The printed body is the program of `Proof.Prog`: each branch is `runK` at its place, and the device's
   place decides which one runs. -/
module

public import proofs.«01_k».proof.Proof.Prog

@[expose] public section

noncomputable section

namespace Cert.KernelIdeal.Att

open Cert.KernelIdeal Cert.KernelIdeal.Gen
open Idealize.ShloMosaic Idealize.SL.Sem

variable {F : FTy → Type} [FloatOps F]

/-! ## Places on the mesh

Device `8 x + 4 y + z` is at `(x, y, z)`. -/

/-- A device's `x`, and the other one. -/
abbrev mx (d : Dev nD) : Fin 2 := ⟨d.val / 8, by have := d.isLt; simp only [nD] at this; omega⟩
abbrev ox (d : Dev nD) : Fin 2 := ⟨1 - d.val / 8, by omega⟩

/-- The device across `y`. -/
def ypeer (d : Dev nD) : Dev nD := ⟨if d.val / 4 % 2 = 0 then d.val + 4 else d.val - 4, by have := d.isLt; simp only [nD] at this ⊢; split <;> omega⟩

/-- The device across `x`. -/
def xtwin (d : Dev nD) : Dev nD := ⟨if d.val / 8 = 0 then d.val + 8 else d.val - 8, by have := d.isLt; simp only [nD] at this ⊢; split <;> omega⟩

theorem ypeer_ypeer : ∀ d : Dev nD, ypeer (ypeer d) = d := by decide
theorem xtwin_xtwin : ∀ d : Dev nD, xtwin (xtwin d) = d := by decide
theorem mx_ypeer : ∀ d : Dev nD, mx (ypeer d) = mx d := by decide
theorem mx_xtwin : ∀ d : Dev nD, mx (xtwin d) = ox d := by decide
theorem ox_ypeer : ∀ d : Dev nD, ox (ypeer d) = ox d := by decide
theorem ox_xtwin : ∀ d : Dev nD, ox (xtwin d) = mx d := by decide
theorem ypeer_ne : ∀ d : Dev nD, ypeer d ≠ d := by decide
theorem xtwin_ne : ∀ d : Dev nD, xtwin d ≠ d := by decide
theorem ypeer_ne_xtwin : ∀ d : Dev nD, ypeer d ≠ xtwin d := by decide
theorem mx_ne_ox : ∀ d : Dev nD, mx d ≠ ox d := by decide

theorem dev1_eq : ∀ d : Dev nD, (⟨k0_dev1 d, k0_dev1_lt d⟩ : Dev nD) = ypeer d := by decide +kernel
theorem dev2_eq : ∀ d : Dev nD, (⟨k0_dev2 d, k0_dev2_lt d⟩ : Dev nD) = xtwin d := by decide +kernel
theorem dev3_eq : ∀ (d : Dev nD) (h : k0_cond1 d = 1#1), (⟨k0_dev3 d, k0_dev3_lt d h⟩ : Dev nD) = ypeer d := by decide +kernel
theorem dev11_eq : ∀ (d : Dev nD) (h : k0_cond1 d = 1#1), (⟨k0_dev11 d, k0_dev11_lt d h⟩ : Dev nD) = xtwin d := by decide +kernel
theorem dev19_eq : ∀ (d : Dev nD) (h : k0_cond2 d = 1#1), (⟨k0_dev19 d, k0_dev19_lt d h⟩ : Dev nD) = ypeer d := by decide +kernel
theorem dev27_eq : ∀ (d : Dev nD) (h : k0_cond2 d = 1#1), (⟨k0_dev27 d, k0_dev27_lt d h⟩ : Dev nD) = xtwin d := by decide +kernel

theorem place : ∀ d : Dev nD, (k0_cond1 d = 1#1 ∧ ¬ k0_cond2 d = 1#1 ∧ mx d = 0 ∧ ox d = 1) ∨
    (¬ k0_cond1 d = 1#1 ∧ k0_cond2 d = 1#1 ∧ mx d = 1 ∧ ox d = 0) := by decide +kernel

/-! ## The branches -/

section
variable (arg0 : Memref sig .tc .vmem S2x8x256x64 .bf16) (harg0 : arg0.IsWhole)
  (arg1 : Memref sig .tc .vmem S2x256x512 .bf16) (harg1 : arg1.IsWhole)
  (arg2 : Memref sig .tc .vmem S2x256x512 .bf16) (harg2 : arg2.IsWhole)
  (arg3 : Memref sig .tc .vmem S2x8x256x64 .f32) (harg3 : arg3.IsWhole)
  (arg4 : Memref sig .tc .vmem S2x256x1024 .bf16) (harg4 : arg4.IsWhole)
  (arg5 : Memref sig .tc .vmem S2x256x1024 .bf16) (harg5 : arg5.IsWhole)
  (arg6 arg7 arg8 arg9 : DmaSems sig S8)

/-- The whole body: the two signals, the wait for as many, and the branch of the device's place. -/
def bodyK : Body F :=
  .op .deviceId fun d =>
  .op (.semSignal (Dev.tc (ypeer d)) (sig.barrier 0 rfl) 1) fun _ =>
  .op (.semSignal (Dev.tc (xtwin d)) (sig.barrier 0 rfl) 1) fun _ =>
  .op (.semWait (sig.barrier 0 rfl) 2) fun _ =>
  runK arg0 arg1 arg2 arg3 arg4 harg4 arg5 harg5 arg6 arg7 arg8 arg9 (mx d) (ox d) (ypeer d) (xtwin d) (.ret ⟨⟩)

set_option maxRecDepth 65536 in
/-- The branch of the devices at `x = 0`. -/
theorem branch0_eq (d0 : Dev nD) (v5 v8 : BitVec 32) (h : k0_cond1 d0 = 1#1) (k : Body F) :
    (k0_part35 (F := F) arg0 harg0 arg1 harg1 arg2 harg2 arg3 harg3 arg4 harg4 arg5 harg5 arg6 arg7 arg8 arg9 d0 v5 v8 h >>= fun _ =>
      waitK arg8 arg5 arg5 harg5 harg5 0 7 k) =
    runK arg0 arg1 arg2 arg3 arg4 harg4 arg5 harg5 arg6 arg7 arg8 arg9 0 1
      ⟨k0_dev3 d0, k0_dev3_lt d0 h⟩ ⟨k0_dev11 d0, k0_dev11_lt d0 h⟩ k := by
  simp only [k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel, k0_part28_eq_skeleton, k0_part28_skel,
    k0_part29_eq_skeleton, k0_part29_skel, k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel,
    Prog.bind_op, Prog.bind_ret, Prog.bind_lift, Prog.pure_eq_ret]
  unfold runK stepsK stepK eachK batchK packK packHalfK startK waitK localK remoteK outK
  rfl

set_option maxRecDepth 65536 in
/-- The branch of the devices at `x = 1`. -/
theorem branch1_eq (d0 : Dev nD) (v5 v8 : BitVec 32) (h : k0_cond2 d0 = 1#1) (k : Body F) :
    (k0_part70 (F := F) arg0 harg0 arg1 harg1 arg2 harg2 arg3 harg3 arg4 harg4 arg5 harg5 arg6 arg7 arg8 arg9 d0 v5 v8 h >>= fun _ =>
      waitK arg8 arg5 arg5 harg5 harg5 1 7 k) =
    runK arg0 arg1 arg2 arg3 arg4 harg4 arg5 harg5 arg6 arg7 arg8 arg9 1 0
      ⟨k0_dev19 d0, k0_dev19_lt d0 h⟩ ⟨k0_dev27 d0, k0_dev27_lt d0 h⟩ k := by
  simp only [k0_part36_eq_skeleton, k0_part36_skel, k0_part37_eq_skeleton, k0_part37_skel, k0_part38_eq_skeleton, k0_part38_skel, k0_part39_eq_skeleton, k0_part39_skel,
    k0_part40_eq_skeleton, k0_part40_skel, k0_part41_eq_skeleton, k0_part41_skel, k0_part42_eq_skeleton, k0_part42_skel, k0_part43_eq_skeleton, k0_part43_skel,
    k0_part44_eq_skeleton, k0_part44_skel, k0_part45_eq_skeleton, k0_part45_skel, k0_part46_eq_skeleton, k0_part46_skel, k0_part47_eq_skeleton, k0_part47_skel,
    k0_part48_eq_skeleton, k0_part48_skel, k0_part49_eq_skeleton, k0_part49_skel, k0_part50_eq_skeleton, k0_part50_skel, k0_part51_eq_skeleton, k0_part51_skel,
    k0_part52_eq_skeleton, k0_part52_skel, k0_part53_eq_skeleton, k0_part53_skel, k0_part54_eq_skeleton, k0_part54_skel, k0_part55_eq_skeleton, k0_part55_skel,
    k0_part56_eq_skeleton, k0_part56_skel, k0_part57_eq_skeleton, k0_part57_skel, k0_part58_eq_skeleton, k0_part58_skel, k0_part59_eq_skeleton, k0_part59_skel,
    k0_part60_eq_skeleton, k0_part60_skel, k0_part61_eq_skeleton, k0_part61_skel, k0_part62_eq_skeleton, k0_part62_skel, k0_part63_eq_skeleton, k0_part63_skel,
    k0_part64_eq_skeleton, k0_part64_skel, k0_part65_eq_skeleton, k0_part65_skel, k0_part66_eq_skeleton, k0_part66_skel, k0_part67_eq_skeleton, k0_part67_skel,
    k0_part68_eq_skeleton, k0_part68_skel, k0_part69_eq_skeleton, k0_part69_skel, k0_part70_eq_skeleton, k0_part70_skel,
    Prog.bind_op, Prog.bind_ret, Prog.bind_lift, Prog.pure_eq_ret]
  unfold runK stepsK stepK eachK batchK packK packHalfK startK waitK localK remoteK outK
  rfl

/-- The printed body is `bodyK`. -/
theorem body_eq : cc0_body (F := F) arg0 harg0 arg1 harg1 arg2 harg2 arg3 harg3 arg4 harg4 arg5 harg5 arg6 arg7 arg8 arg9 =
    bodyK arg0 arg1 arg2 arg3 arg4 harg4 arg5 harg5 arg6 arg7 arg8 arg9 := by
  have e0 := fun d0 v5 v8 h k => branch0_eq (F := F) arg0 harg0 arg1 harg1 arg2 harg2 arg3 harg3 arg4 harg4 arg5 harg5 arg6 arg7 arg8 arg9 d0 v5 v8 h k
  have e1 := fun d0 v5 v8 h k => branch1_eq (F := F) arg0 harg0 arg1 harg1 arg2 harg2 arg3 harg3 arg4 harg4 arg5 harg5 arg6 arg7 arg8 arg9 d0 v5 v8 h k
  unfold waitK at e0 e1
  simp only [cc0_body_eq_skeleton, cc0_body_skel, k0_part71_eq_skeleton, k0_part71_skel, bodyK, semSignalWord, semWaitWord,
    Prog.bind_op, Prog.bind_ret, Prog.bind_lift, Prog.pure_eq_ret]
  refine congrArg (Prog.op _) (funext fun d => ?_)
  rw [dev1_eq, dev2_eq]
  refine congrArg (Prog.op _) (funext fun _ => congrArg (Prog.op _) (funext fun _ => congrArg (Prog.op _) (funext fun _ => ?_)))
  rcases place d with ⟨h1, h2, hm, ho⟩ | ⟨h1, h2, hm, ho⟩
  · rw [dif_pos h1, dif_neg h2, hm, ho, ← dev3_eq d h1, ← dev11_eq d h1]
    simp only [bind_assoc, Prog.bind_op, Prog.bind_ret, Prog.pure_eq_ret]
    exact e0 d _ _ h1 (.ret ⟨⟩)
  · rw [dif_neg h1, dif_pos h2, hm, ho, ← dev19_eq d h2, ← dev27_eq d h2]
    simp only [bind_assoc, Prog.bind_op, Prog.bind_ret, Prog.pure_eq_ret]
    exact e1 d _ _ h2 (.ret ⟨⟩)

end

end Cert.KernelIdeal.Att

end
-- ==== Proof.Geometry.lean ====
/- The parts of the buffers that the body's loads, stores and transfers touch, as sets of indices:
   how the chunks, the halves and the heads cover a batch entry or the whole of a buffer. -/
module

public import proofs.«01_k».proof.Proof.Branch
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk
public import Idealize.ShloMosaic.Lib.Pipeline.Value
public import Idealize.ShloMosaic.Lib.Exec.Geometry
public import Idealize.ShloMosaic.Lib.Writes

@[expose] public section

noncomputable section

namespace Cert.KernelIdeal.Att

open Cert.KernelIdeal Cert.KernelIdeal.Gen
open Idealize.ShloMosaic Idealize.SL.Sem

variable {F : FTy → Type} [FloatOps F]

/-! ## The buffers -/

/-- The queries, the keys and the values of the device, and the result. -/
abbrev Qm : Memref sig .tc .vmem S2x8x256x64 .bf16 := Memref.whole cc0_stg0_0
abbrev Km : Memref sig .tc .vmem S2x256x512 .bf16 := Memref.whole cc0_stg1_0
abbrev Vm : Memref sig .tc .vmem S2x256x512 .bf16 := Memref.whole cc0_stg2_0
abbrev Om : Memref sig .tc .vmem S2x8x256x64 .f32 := Memref.whole cc0_stg3_0
/-- The packed buffers: the device's own keys and values, and the received ones. -/
abbrev Lm : Memref sig .tc .vmem S2x256x1024 .bf16 := Memref.whole cc0_scratch0
abbrev Rm : Memref sig .tc .vmem S2x256x1024 .bf16 := Memref.whole cc0_scratch1

/-! ## Sets -/

/-- Batch entry `b` of a packed buffer. -/
def batchSet (b : Fin 2) : Finset S2x256x1024.Idx := Finset.univ.filter fun i => (i 0).val = b.val

theorem mem_batch (b : Fin 2) (i : S2x256x1024.Idx) : i ∈ batchSet b ↔ (i 0).val = b.val := by
  simp [batchSet]

theorem mem_chunk (b : Fin 2) (c : Fin 8) (i : S2x256x1024.Idx) :
    i ∈ (chunkR b c).set ↔ (i 0).val = b.val ∧ 32 * c.val ≤ (i 1).val ∧ (i 1).val < 32 * c.val + 32 := by
  rw [Rect.mem_set_unit]
  have h2 : (i 2).val < 1024 := (i 2).isLt
  constructor
  · intro h
    have h0 : b.val ≤ (i 0).val ∧ (i 0).val < b.val + 1 := h 0
    have h1 : 32 * c.val ≤ (i 1).val ∧ (i 1).val < 32 * c.val + 32 := h 1
    omega
  · rintro ⟨h0, h1⟩ a
    match a with
    | 0 => show b.val ≤ (i 0).val ∧ (i 0).val < b.val + 1; omega
    | 1 => exact h1
    | 2 => show 0 ≤ (i 2).val ∧ (i 2).val < 0 + 1024; omega

theorem mem_half (b j : Fin 2) (i : S2x256x1024.Idx) :
    i ∈ (halfR b j).set ↔ (i 0).val = b.val ∧ 512 * j.val ≤ (i 2).val ∧ (i 2).val < 512 * j.val + 512 := by
  rw [Rect.mem_set_unit]
  have h1 : (i 1).val < 256 := (i 1).isLt
  constructor
  · intro h
    have h0 : b.val ≤ (i 0).val ∧ (i 0).val < b.val + 1 := h 0
    have h2 : 512 * j.val ≤ (i 2).val ∧ (i 2).val < 512 * j.val + 512 := h 2
    omega
  · rintro ⟨h0, h2⟩ a
    match a with
    | 0 => show b.val ≤ (i 0).val ∧ (i 0).val < b.val + 1; omega
    | 1 => show 0 ≤ (i 1).val ∧ (i 1).val < 0 + 256; omega
    | 2 => exact h2

theorem mem_pair (b j : Fin 2) (hh : Fin 4) (i : S2x256x1024.Idx) (h : i ∈ (pairR b j hh).set) : (i 0).val = b.val := by
  rw [Rect.mem_set_unit] at h
  have h0 : b.val ≤ (i 0).val ∧ (i 0).val < b.val + 1 := h 0
  omega

theorem mem_head (b : Fin 2) (h : Fin 8) (i : S2x8x256x64.Idx) :
    i ∈ (headR b h).set ↔ (i 0).val = b.val ∧ (i 1).val = h.val := by
  rw [Rect.mem_set_unit]
  have h2 : (i 2).val < 256 := (i 2).isLt
  have h3 : (i 3).val < 64 := (i 3).isLt
  constructor
  · intro e
    have e0 : b.val ≤ (i 0).val ∧ (i 0).val < b.val + 1 := e 0
    have e1 : h.val ≤ (i 1).val ∧ (i 1).val < h.val + 1 := e 1
    omega
  · rintro ⟨e0, e1⟩ a
    match a with
    | 0 => show b.val ≤ (i 0).val ∧ (i 0).val < b.val + 1; omega
    | 1 => show h.val ≤ (i 1).val ∧ (i 1).val < h.val + 1; omega
    | 2 => show 0 ≤ (i 2).val ∧ (i 2).val < 0 + 256; omega
    | 3 => show 0 ≤ (i 3).val ∧ (i 3).val < 0 + 64; omega

/-! ## Covers -/

theorem chunk_disjoint (b : Fin 2) (c c' : Fin 8) (h : c ≠ c') : Disjoint (chunkR b c).set (chunkR b c').set := by
  rw [Finset.disjoint_left]
  intro i hi hi'
  rw [mem_chunk] at hi hi'
  exact h (Fin.ext (by omega))

theorem batch_chunks (b : Fin 2) : batchSet b = (Finset.univ : Finset (Fin 8)).biUnion fun c => (chunkR b c).set := by
  ext i
  rw [mem_batch, Finset.mem_biUnion]
  have h1 : (i 1).val < 256 := (i 1).isLt
  constructor
  · intro h
    exact ⟨⟨(i 1).val / 32, by omega⟩, Finset.mem_univ _, (mem_chunk _ _ _).mpr ⟨h, by dsimp only; omega, by dsimp only; omega⟩⟩
  · rintro ⟨c, -, hc⟩
    exact ((mem_chunk _ _ _).mp hc).1

theorem half_disjoint (b : Fin 2) : Disjoint (halfR b 0).set (halfR b 1).set := by
  rw [Finset.disjoint_left]
  intro i hi hi'
  have h0 := ((mem_half _ _ _).mp hi).2
  have h1 := ((mem_half _ _ _).mp hi').2
  change 512 * 0 ≤ _ ∧ _ < 512 * 0 + 512 at h0
  change 512 * 1 ≤ _ ∧ _ < 512 * 1 + 512 at h1
  omega

theorem batch_halves (b : Fin 2) : batchSet b = (halfR b 0).set ∪ (halfR b 1).set := by
  ext i
  rw [mem_batch, Finset.mem_union, mem_half, mem_half]
  have h2 : (i 2).val < 1024 := (i 2).isLt
  change _ ↔ (_ ∧ 512 * 0 ≤ _ ∧ _ < 512 * 0 + 512) ∨ (_ ∧ 512 * 1 ≤ _ ∧ _ < 512 * 1 + 512)
  omega

theorem batch_disjoint (b b' : Fin 2) (h : b ≠ b') : Disjoint (batchSet b) (batchSet b') := by
  rw [Finset.disjoint_left]
  intro i hi hi'
  rw [mem_batch] at hi hi'
  exact h (Fin.ext (by omega))

theorem univ_batches (b b' : Fin 2) (h : b ≠ b') : (Finset.univ : Finset S2x256x1024.Idx) = batchSet b ∪ batchSet b' := by
  ext i
  have h0 : (i 0).val < 2 := (i 0).isLt
  have hn : b.val ≠ b'.val := fun e => h (Fin.ext e)
  rw [Finset.mem_union, mem_batch, mem_batch]
  simp only [Finset.mem_univ, true_iff]
  omega

theorem pair_sub (b j : Fin 2) (hh : Fin 4) : (pairR b j hh).set ⊆ batchSet b :=
  fun i hi => (mem_batch _ _).mpr (mem_pair _ _ _ _ hi)

/-- The heads of the result, by batch entry, head pair and place in the pair. -/
abbrev headSet (p : Fin 2 × Fin 4 × Fin 2) : Finset S2x8x256x64.Idx := (headR p.1 (headOf p.2.1 p.2.2)).set

theorem head_disjoint (p p' : Fin 2 × Fin 4 × Fin 2) (h : p ≠ p') : Disjoint (headSet p) (headSet p') := by
  rw [Finset.disjoint_left]
  intro i hi hi'
  rw [mem_head] at hi hi'
  dsimp only at hi hi'
  exact h (Prod.ext (Fin.ext (by omega)) (Prod.ext (Fin.ext (by omega)) (Fin.ext (by omega))))

theorem univ_heads : (Finset.univ : Finset S2x8x256x64.Idx) = (Finset.univ : Finset (Fin 2 × Fin 4 × Fin 2)).biUnion headSet := by
  ext i
  rw [Finset.mem_biUnion]
  simp only [Finset.mem_univ, true_iff, true_and]
  have h1 : (i 1).val < 8 := (i 1).isLt
  exact ⟨(⟨(i 0).val, (i 0).isLt⟩, ⟨(i 1).val / 2, by omega⟩, ⟨(i 1).val % 2, by omega⟩), (mem_head _ _ _).mpr ⟨rfl, by dsimp only; omega⟩⟩

/-! ## What the views of the accesses touch -/

theorem chunk_setL (b : Fin 2) (c : Fin 8) : (chunk Lm b c).view.set = (chunkR b c).set := by
  show ((((View.whole cc0_scratch0).slice (chunkR b c)).reshape S32x1024 _)).set = _
  rw [View.set_reshape, View.set_slice_whole]
theorem chunk_setR (b : Fin 2) (c : Fin 8) : (chunk Rm b c).view.set = (chunkR b c).set := by
  show ((((View.whole cc0_scratch1).slice (chunkR b c)).reshape S32x1024 _)).set = _
  rw [View.set_reshape, View.set_slice_whole]

/-- What a chunk's transfer counts for. -/
abbrev N : ℕ := (chunk Rm 0 0).view.dmaCredit
theorem N_pos : 0 < N := View.dmaCredit_pos _ (by decide)
theorem N_eq (b : Fin 2) (c : Fin 8) : (chunk Rm b c).view.dmaCredit = N := rfl
theorem N_eqL (b : Fin 2) (c : Fin 8) : (chunk Lm b c).view.dmaCredit = N := rfl

/-- What lands of a chunk is what was sent of it. -/
theorem landL (b : Fin 2) (c : Fin 8) (fd fs : Vec F S2x256x1024 .bf16) (i : S2x256x1024.Idx) (hi : i ∈ (chunkR b c).set) :
    ((chunk Rm b c).view.write (Elt F) fd ((chunk Lm b c).view.read (Elt F) fs) Finset.univ : Vec F S2x256x1024 .bf16) i = fs i := by
  rw [← chunk_setR] at hi
  obtain ⟨x, -, rfl⟩ := Finset.mem_map.mp hi
  rw [View.write_emb, if_pos (Finset.mem_univ _)]
  rfl
theorem landR (b : Fin 2) (c : Fin 8) (fd fs : Vec F S2x256x1024 .bf16) (i : S2x256x1024.Idx) (hi : i ∈ (chunkR b c).set) :
    ((chunk Rm b c).view.write (Elt F) fd ((chunk Rm b c).view.read (Elt F) fs) Finset.univ : Vec F S2x256x1024 .bf16) i = fs i := by
  rw [← chunk_setR] at hi
  obtain ⟨x, -, rfl⟩ := Finset.mem_map.mp hi
  rw [View.write_emb, if_pos (Finset.mem_univ _)]
  rfl

end Cert.KernelIdeal.Att

end
-- ==== Proof.Proto.lean ====
/- The protocol. Device `d` talks with two others, `ypeer d` across `y` and `xtwin d` across `x`:

   * it tells both that its receive buffer is free: the chunks of batch entry `mx d` to `ypeer d`, those of
     the other entry to `xtwin d` (one unit each on their barrier cells), and waits for two units of its own;
   * it sends its packed keys and values of entry `mx d` to `ypeer d`, chunk by chunk, and passes each
     chunk it receives from there on to `xtwin d`;
   * so its receive buffer ends with entry `mx d` from `ypeer d` and the other entry, by way of `xtwin d`,
     from `ypeer (xtwin d)`.

   Cells per device: the barrier cell, and for each chunk the four cells of its transfers (sent across `y`,
   received across `y`, passed on across `x`, received across `x`). Each cell has one round. A barrier cell's
   round has two duties, the others' one. A wait is for a cell below all that the waiter still owes: barrier
   cells are at level 1, what comes across `y` at 2, what comes across `x` at 3. -/
module

public import proofs.«01_k».proof.Proof.Geometry

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resources -/

/-- The pipeline's own rounds beside the protocol's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Cells -/

abbrev barS : Sem sig := sig.barrier 0 rfl

/-- Kind `k`'s semaphore of chunk `c`: 0 sent across `y`, 1 received across `y`, 2 passed on, 3 received across `x`. -/
def sem (k : Fin 4) (c : Fin 8) : DmaSem sig := ⟨4 + 8 * k.val + c.val, by show _ < 36; omega⟩

abbrev barCell (d : Dev nD) : GSem nD τ sig := ((d : Thread nD τ), .reg barS)
abbrev kCell (k : Fin 4) (d : Dev nD) (c : Fin 8) : GSem nD τ sig := ((d : Thread nD τ), .dma (sem k c))

theorem cellAt_ysend : ∀ c, cellAt cc0_scratch2 c = sem 0 c := by decide +kernel
theorem cellAt_yrecv : ∀ c, cellAt cc0_scratch3 c = sem 1 c := by decide +kernel
theorem cellAt_fsend : ∀ c, cellAt cc0_scratch4 c = sem 2 c := by decide +kernel
theorem cellAt_frecv : ∀ c, cellAt cc0_scratch5 c = sem 3 c := by decide +kernel

/-- Which of the transfers' cells a semaphore is, if any. -/
def kind : SemLoc sig → Option (Fin 4 × Fin 8)
  | .reg _ => none
  | .dma s => if h : 4 ≤ s.val then
      some (⟨(s.val - 4) / 8, by have h' : s.val < 36 := s.isLt; omega⟩, ⟨(s.val - 4) % 8, by omega⟩) else none

theorem kind_sem (k : Fin 4) (c : Fin 8) : kind (.dma (sem k c)) = some (k, c) := by
  unfold kind sem
  dsimp only
  rw [dif_pos (by omega)]
  exact congrArg some (Prod.ext (Fin.ext (by dsimp only; omega)) (Fin.ext (by dsimp only; omega)))
theorem kind_bar : kind (.reg barS) = none := rfl
theorem sem_ne_bar (k : Fin 4) (c : Fin 8) : (SemLoc.dma (sem k c) : SemLoc sig) ≠ .reg barS := fun h => by cases h
theorem sem_inj {k k' : Fin 4} {c c' : Fin 8} (h : (SemLoc.dma (sem k c) : SemLoc sig) = .dma (sem k' c')) : k = k' ∧ c = c' := by
  have e := congrArg kind h
  rw [kind_sem, kind_sem] at e
  exact ⟨congrArg Prod.fst (Option.some.inj e), congrArg Prod.snd (Option.some.inj e)⟩

/-! ## Contents -/

/-- Part `I` of device `d`'s packed buffer, and of its receive buffer, at share `q` and contents `f`. -/
abbrev lPts (d : Dev nD) (I : Finset S2x256x1024.Idx) (q : PosShare TreeShare) (f : Vec F S2x256x1024 .bf16) : sProp 𝕄 :=
  (d : Thread nD τ).loc cc0_scratch0 ↦[I]{q} f
abbrev rPts (d : Dev nD) (I : Finset S2x256x1024.Idx) (q : PosShare TreeShare) (f : Vec F S2x256x1024 .bf16) : sProp 𝕄 :=
  (d : Thread nD τ).loc cc0_scratch1 ↦[I]{q} f

-- what each device's packed buffer holds
variable (pk : Dev nD → Vec F S2x256x1024 .bf16)

/-- What device `d`'s receive buffer ends with. -/
def got (d : Dev nD) : Vec F S2x256x1024 .bf16 :=
  fun i => if (i 0).val = (mx d).val then pk (ypeer d) i else pk (ypeer (xtwin d)) i

theorem got_mx (d : Dev nD) {i : S2x256x1024.Idx} (h : (i 0).val = (mx d).val) : got pk d i = pk (ypeer d) i := if_pos h
theorem got_ox (d : Dev nD) {i : S2x256x1024.Idx} (h : (i 0).val = (ox d).val) : got pk d i = pk (ypeer (xtwin d)) i :=
  if_neg fun e => mx_ne_ox d (Fin.ext (e.symm.trans h))

/-- What device `d` sends across `y` is what the other device is to get. -/
theorem got_ypeer (d : Dev nD) {i : S2x256x1024.Idx} (h : (i 0).val = (mx d).val) : got pk (ypeer d) i = pk d i := by
  rw [got_mx pk (ypeer d) (by rw [mx_ypeer]; exact h), ypeer_ypeer]
/-- What device `d` passes on across `x` is what the other device is to get. -/
theorem got_xtwin (d : Dev nD) {i : S2x256x1024.Idx} (h : (i 0).val = (mx d).val) : got pk (xtwin d) i = got pk d i := by
  rw [got_ox pk (xtwin d) (by rw [ox_xtwin]; exact h), xtwin_xtwin, got_mx pk d h]

/-! ## The schedule -/

/-- Chunks of batch entry `b` of device `p`'s receive buffer, free to be written, beside its open cells of kind `k`. -/
def slots (p : Dev nD) (k : Fin 4) (b : Fin 2) : sProp 𝕄 :=
  bigSep Finset.univ fun c : Fin 8 => iprop((∃ f, rPts p (chunkR b c).set fullShare f) ∗ reached ER (kCell k p c) 0)

/-- What the two duties of a barrier cell pay. -/
def barPay (d : Dev nD) (u : Bool) : sProp 𝕄 := if u then slots (xtwin d) 3 (mx d) else slots (ypeer d) 1 (mx d)

/-- What a transfer pays on the cell of kind `k` and chunk `c`. -/
def dmaPay (d : Dev nD) (k : Fin 4) (c : Fin 8) : sProp 𝕄 :=
  match k with
  | 0 => lPts d (chunkR (mx d) c).set fullShare.right (pk d)
  | 1 => rPts d (chunkR (mx d) c).set fullShare (got pk d)
  | 2 => rPts d (chunkR (mx d) c).set fullShare.right (got pk d)
  | 3 => rPts d (chunkR (ox d) c).set fullShare (got pk d)

def Rd : Rounds.Schedule (GSem nD τ sig) Bool 𝕄 where
  duties g r :=
    if r = 0 ∧ g.1.2 = .tc then
      (match kind g.2 with
      | some _ => {false}
      | none => if g.2 = .reg barS then {false, true} else ∅)
    else ∅
  unitless _ := False
  amount g _ _ := if g.2 = .reg barS then 1 else N
  payload g _ u :=
    match kind g.2 with
    | some (k, c) => dmaPay pk g.1.1 k c
    | none => barPay g.1.1 u
  amount_pos g _ _ _ := by
    by_cases h : g.2 = .reg barS
    · rw [if_pos h]; exact Nat.one_pos
    · rw [if_neg h]; exact N_pos

instance dmaPay_storable (d : Dev nD) (k : Fin 4) (c : Fin 8) : BI.Storable (upEmb : UEmb _ 𝕄) (dmaPay pk d k c) := by
  unfold dmaPay
  split <;> infer_instance

instance slots_storable (p : Dev nD) (k : Fin 4) (b : Fin 2) : BI.Storable (upEmb : UEmb _ 𝕄) (slots (F := F) p k b) := by
  unfold slots
  infer_instance

instance Rd_payload_storable (g : GSem nD τ sig) (r : ℕ) (u : Bool) : BI.Storable (upEmb : UEmb _ 𝕄) ((Rd pk).payload g r u) := by
  show BI.Storable upEmb (match kind g.2 with
    | some (k, c) => dmaPay pk g.1.1 k c
    | none => barPay g.1.1 u)
  unfold barPay
  (repeat' split) <;> infer_instance

section Sched
variable (d : Dev nD) (k : Fin 4) (c : Fin 8) (u : Bool)

theorem duties_bar : (Rd pk).duties (barCell d) 0 = {false, true} := by
  dsimp only [Rd]; rw [if_pos ⟨rfl, rfl⟩, kind_bar]; exact if_pos rfl
theorem duties_k : (Rd pk).duties (kCell k d c) 0 = {false} := by
  dsimp only [Rd]; rw [if_pos ⟨rfl, rfl⟩, kind_sem]
theorem duties_later (g : GSem nD τ sig) : ∀ r, 0 + 1 ≤ r → (Rd pk).duties g r = ∅ :=
  fun r hr => by dsimp only [Rd]; rw [if_neg fun h => by omega]

theorem amount_bar : (Rd pk).amount (barCell d) 0 u = 1 := by dsimp only [Rd]; exact if_pos rfl
theorem amount_k : (Rd pk).amount (kCell k d c) 0 u = N := by dsimp only [Rd]; exact if_neg (sem_ne_bar k c)

theorem expect_bar : (Rd pk).expect (barCell d) 0 = 2 := by
  unfold Schedule.expect Schedule.amountOf
  rw [duties_bar, Finset.sum_pair (by decide), amount_bar, amount_bar]
theorem expect_k : (Rd pk).expect (kCell k d c) 0 = N := by
  unfold Schedule.expect Schedule.amountOf
  rw [duties_k, Finset.sum_singleton, amount_k]

theorem payload_bar : (Rd pk).payload (barCell d) 0 u = barPay d u := by dsimp only [Rd]; rw [kind_bar]
theorem payload_k : (Rd pk).payload (kCell k d c) 0 u = dmaPay pk d k c := by dsimp only [Rd]; rw [kind_sem]

theorem rest_bar : bigSep ((Rd pk).duties (barCell d) 0 \ ∅) (fun u => (Rd pk).payload (barCell d) 0 u) =
    iprop(slots (ypeer d) 1 (mx d) ∗ slots (xtwin d) 3 (mx d)) := by
  rw [Finset.sdiff_empty, duties_bar, bigSep_insert (by decide), bigSep_singleton, payload_bar, payload_bar]
  rfl
theorem rest_k : bigSep ((Rd pk).duties (kCell k d c) 0 \ ∅) (fun u => (Rd pk).payload (kCell k d c) 0 u) = dmaPay pk d k c := by
  rw [Finset.sdiff_empty, duties_k, bigSep_singleton, payload_k]

end Sched

/-! ## What a device owes -/

/-- The chunks, in order. -/
abbrev all8 : List (Fin 8) := [0, 1, 2, 3, 4, 5, 6, 7]

/-- The credit of the chunks in `l` on the cells of kind `k` of device `p`. -/
def owing (k : Fin 4) (p : Dev nD) (l : List (Fin 8)) : CellTallies nD τ sig Unit :=
  (l.map fun c => tallyAt (kCell k p c) () N).sum

theorem owing_cons (k : Fin 4) (p : Dev nD) (c : Fin 8) (l : List (Fin 8)) :
    owing k p (c :: l) = owing k p l + tallyAt (kCell k p c) () N := by
  unfold owing; rw [List.map_cons, List.sum_cons, add_comm]
theorem owing_nil (k : Fin 4) (p : Dev nD) : owing k p [] = 0 := rfl

theorem owing_pos {k : Fin 4} {p : Dev nD} {g : GSem nD τ sig} {u : Unit} : ∀ {l : List (Fin 8)}, 0 < owing k p l g u → ∃ c, g = kCell k p c
  | [], h => absurd h (Nat.lt_irrefl 0)
  | c :: l, h => by
    rw [owing_cons, Pi.add_apply, Finsupp.add_apply] at h
    rcases Nat.add_pos_iff_pos_or_pos.mp h with h | h
    · exact owing_pos h
    · rw [tallyAt_apply] at h
      split at h
      · next hg => exact ⟨c, hg.1⟩
      · exact absurd h (Nat.lt_irrefl 0)

/-- What device `d` owes once both its signals are out, and at launch. -/
def O₂ (d : Dev nD) : CellTallies nD τ sig Unit := owing 1 (ypeer d) all8 + owing 3 (xtwin d) all8
def O₀ (d : Dev nD) : CellTallies nD τ sig Unit := O₂ d + tallyAt (barCell (xtwin d)) () 1 + tallyAt (barCell (ypeer d)) () 1

def L (g : GSem nD τ sig) : Finset Unit := if g.1.2 = .tc then {()} else ∅
/-- The levels. -/
def lv (g : GSem nD τ sig) (_ : Unit) : ℕ :=
  match kind g.2 with
  | some (k, _) => (![0, 2, 0, 3] : Fin 4 → ℕ) k
  | none => if g.2 = .reg barS then 1 else 0

theorem L_of_ne (g : GSem nD τ sig) (h : g.1.2 ≠ .tc) : L g = ∅ := if_neg h
theorem L_tc (d : Dev nD) (sm : SemLoc sig) : L ((d : Thread nD τ), sm) = {()} := if_pos rfl
theorem lv_bar (d : Dev nD) : lv (barCell d) () = 1 := by dsimp only [lv]; rw [kind_bar]; exact if_pos rfl
theorem lv_k (k : Fin 4) (d : Dev nD) (c : Fin 8) : lv (kCell k d c) () = (![0, 2, 0, 3] : Fin 4 → ℕ) k := by dsimp only [lv]; rw [kind_sem]

/-- A wait below all that is owed. -/
theorem mayWait_of (d : Dev nD) (sm : SemLoc sig) (O : CellTallies nD τ sig Unit)
    (h : ∀ g u, 0 < O g u → () ∈ L g ∧ lv ((d : Thread nD τ), sm) () < lv g ()) :
    (levAts L lv : sProp 𝕄) ⊢ MayWait (d : Thread nD τ) sm () O :=
  MayOwe.of_cut (L := L) (lev := lv) (lv ((d : Thread nD τ), sm) ())
    (fun p hp => by rw [Finset.mem_singleton.mp hp, L_tc]; exact Finset.mem_singleton_self _)
    (fun g u hg => (h g u hg).1)
    (fun p hp => by rw [Finset.mem_singleton.mp hp])
    (fun g u hg => (h g u hg).2)

theorem mem_L_tc (d : Dev nD) (sm : SemLoc sig) : () ∈ L ((d : Thread nD τ), sm) := by rw [L_tc]; exact Finset.mem_singleton_self _

theorem O₂_pos {d : Dev nD} {g : GSem nD τ sig} {u : Unit} (h : 0 < O₂ d g u) : (∃ c, g = kCell 1 (ypeer d) c) ∨ ∃ c, g = kCell 3 (xtwin d) c := by
  unfold O₂ at h
  rw [Pi.add_apply, Finsupp.add_apply] at h
  rcases Nat.add_pos_iff_pos_or_pos.mp h with h | h
  · exact .inl (owing_pos h)
  · exact .inr (owing_pos h)

theorem mayWait_bar (d : Dev nD) : (levAts L lv : sProp 𝕄) ⊢ MayWait (d : Thread nD τ) (.reg barS) () (O₂ d) :=
  mayWait_of d _ _ fun g u h => by
    rcases O₂_pos h with ⟨c, rfl⟩ | ⟨c, rfl⟩
    · exact ⟨mem_L_tc _ _, by rw [lv_bar, lv_k]; decide⟩
    · exact ⟨mem_L_tc _ _, by rw [lv_bar, lv_k]; decide⟩

theorem mayWait_y (d : Dev nD) (c : Fin 8) (l : List (Fin 8)) :
    (levAts L lv : sProp 𝕄) ⊢ MayWait (d : Thread nD τ) (.dma (sem 1 c)) () (owing 3 (xtwin d) l) :=
  mayWait_of d _ _ fun g u h => by
    obtain ⟨c', rfl⟩ := owing_pos h
    exact ⟨mem_L_tc _ _, by rw [lv_k 1 d c, lv_k]; decide⟩

/-! ## Records -/

/-- Every cell of the protocol: the barrier cells, and the transfers' cells. -/
def barEmb : Dev nD ↪ GSem nD τ sig := ⟨barCell, fun _ _ h => congrArg (fun g : GSem nD τ sig => g.1.1) h⟩
def kEmb : Dev nD × Fin 4 × Fin 8 ↪ GSem nD τ sig :=
  ⟨fun x => kCell x.2.1 x.1 x.2.2, fun _ _ h =>
    Prod.ext (congrArg (fun g : GSem nD τ sig => g.1.1) h)
      (Prod.ext (sem_inj (congrArg Prod.snd h)).1 (sem_inj (congrArg Prod.snd h)).2)⟩
abbrev barCells : Finset (GSem nD τ sig) := Finset.univ.map barEmb
abbrev kCells : Finset (GSem nD τ sig) := Finset.univ.map kEmb

theorem bar_mem (d : Dev nD) : barCell d ∈ (barCells ∪ kCells : Finset (GSem nD τ sig)) :=
  Finset.mem_union_left _ (Finset.mem_map_of_mem barEmb (Finset.mem_univ d))
theorem k_mem (k : Fin 4) (d : Dev nD) (c : Fin 8) : kCell k d c ∈ (barCells ∪ kCells : Finset (GSem nD τ sig)) :=
  Finset.mem_union_right _ (Finset.mem_map_of_mem kEmb (Finset.mem_univ (d, k, c)))

/-- What every device may consult: the cells' invariants, under one map of names, and that every barrier cell is open. -/
def records (K : GSem nD τ sig → ℕ) : sProp 𝕄 :=
  iprop((bigSep (barCells ∪ kCells) fun g => cellInv ER (Rd pk) (K g) g) ∗ bigSep barCells fun g => reached ER g 0)

instance records_persistent (K : GSem nD τ sig → ℕ) : BI.Persistent (records pk K) := by unfold records; infer_instance

theorem inv_bar (K : GSem nD τ sig → ℕ) (d : Dev nD) : records pk K ⊢ cellInv ER (Rd pk) (K (barCell d)) (barCell d) := by
  unfold records
  iintro ⟨#H, -⟩
  iapply (show (bigSep (barCells ∪ kCells) fun g => (cellInv ER (Rd pk) (K g) g : sProp 𝕄)) ⊢ cellInv ER (Rd pk) (K (barCell d)) (barCell d) from bigSep_elim (bar_mem d)); iexact H
theorem inv_k (K : GSem nD τ sig → ℕ) (k : Fin 4) (d : Dev nD) (c : Fin 8) :
    records pk K ⊢ cellInv ER (Rd pk) (K (kCell k d c)) (kCell k d c) := by
  unfold records
  iintro ⟨#H, -⟩
  iapply (show (bigSep (barCells ∪ kCells) fun g => (cellInv ER (Rd pk) (K g) g : sProp 𝕄)) ⊢ cellInv ER (Rd pk) (K (kCell k d c)) (kCell k d c) from bigSep_elim (k_mem k d c)); iexact H
theorem reached_bar (K : GSem nD τ sig → ℕ) (d : Dev nD) : records pk K ⊢ reached ER (barCell d) 0 := by
  unfold records
  iintro ⟨-, #H⟩
  iapply (show (bigSep barCells fun g => (reached ER g 0 : sProp 𝕄)) ⊢ reached ER (barCell d) 0 from bigSep_elim (Finset.mem_map_of_mem barEmb (Finset.mem_univ d))); iexact H

end Cert.KernelIdeal.Att

end
-- ==== Proof.Steps.lean ====
/- What each stretch of the body does: one rule per stretch, from what the device holds before to what it
   holds after, the rest of the body following. -/
module

public import proofs.«01_k».proof.Proof.Proto
public import Idealize.ShloMosaic.Lib.Pipeline.BigSepL

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `d` runs `k` to a state of which `Q` holds. -/
abbrev Runs (d : Dev nD) (k : Body F) (Q : PUnit → sProp 𝕄) : sProp 𝕄 :=
  wp frame (wpE (defs₀ (F := F)) 𝒱₀ (d : Thread nD τ) none) Set.univ k Q

/-- A rule for each member of a list, in order, `T l` being what is held while `l` is still to come. -/
theorem list_rule {ι : Type} {d : Dev nD} {Q : PUnit → sProp 𝕄} (I : sProp 𝕄) [BI.Persistent I] (f : ι → Body F → Body F)
    (Pend Done : ι → sProp 𝕄) (T : List ι → sProp 𝕄)
    (step : ∀ c l k, iprop(I ∗ Pend c ∗ T (c :: l)) ⊢ iprop((Done c ∗ T l -∗ Runs d k Q) -∗ Runs d (f c k) Q)) :
    ∀ (l : List ι) (k : Body F),
      iprop(I ∗ bigSepL l Pend ∗ T l) ⊢ iprop((bigSepL l Done ∗ T [] -∗ Runs d k Q) -∗ Runs d (l.foldr f k) Q)
  | [], k => by
    rw [bigSepL_nil, bigSepL_nil]
    iintro ⟨-, -, HT⟩ Hk
    iapply Hk
    isplitr; · iempintro
    iexact HT
  | c :: l, k => by
    rw [bigSepL_cons', bigSepL_cons', List.foldr_cons]
    iintro ⟨#HI, ⟨Hp, Hps⟩, HT⟩ Hk
    iapply (step c l _) $$ [Hp HT]
    · isplitr; · iexact HI
      isplitl [Hp] <;> iassumption
    iintro ⟨Hd, HT⟩
    iapply (list_rule I f Pend Done T step l k) $$ [Hps HT]
    · isplitr; · iexact HI
      isplitl [Hps] <;> iassumption
    iintro ⟨Hds, HT⟩
    iapply Hk
    isplitr [HT]
    · isplitl [Hd] <;> iassumption
    iexact HT

/-- The same for the eight chunks. -/
theorem each_rule {d : Dev nD} {Q : PUnit → sProp 𝕄} (I : sProp 𝕄) [BI.Persistent I] (f : Fin 8 → Body F → Body F)
    (Pend Done : Fin 8 → sProp 𝕄) (T : List (Fin 8) → sProp 𝕄)
    (step : ∀ c l k, iprop(I ∗ Pend c ∗ T (c :: l)) ⊢ iprop((Done c ∗ T l -∗ Runs d k Q) -∗ Runs d (f c k) Q)) (k : Body F) :
    iprop(I ∗ bigSep Finset.univ Pend ∗ T all8) ⊢ iprop((bigSep Finset.univ Done ∗ T [] -∗ Runs d k Q) -∗ Runs d (eachK f k) Q) := by
  rw [bigSep_univ_eq_bigSepL all8 (by decide) (by decide), bigSep_univ_eq_bigSepL all8 (by decide) (by decide)]
  exact list_rule I f Pend Done T step all8 k

/-! ## Packing -/

/-- The place in an array of keys or of values of a place in a packed buffer. -/
def keyIdx (i : S2x256x1024.Idx) : S2x256x512.Idx := fun a =>
  match a with
  | 0 => ⟨(i 0).val, (i 0).isLt⟩
  | 1 => ⟨(i 1).val, (i 1).isLt⟩
  | 2 => ⟨(i 2).val % 512, Nat.mod_lt _ (by decide)⟩

/-- Keys and values side by side. -/
def pkOf (km vm : Vec F S2x256x512 .bf16) : Vec F S2x256x1024 .bf16 :=
  fun i => if (i 2).val < 512 then km (keyIdx i) else vm (keyIdx i)

theorem keyIdx_half (b j : Fin 2) (x : S1x256x512.Idx) : keyIdx ((halfR b j).emb x) = (srcR b).emb x := by
  have h0 : (x 0).val < 1 := (x 0).isLt
  have h1 : (x 1).val < 256 := (x 1).isLt
  have h2 : (x 2).val < 512 := (x 2).isLt
  have hj : j.val < 2 := j.isLt
  funext a
  apply Fin.ext
  match a with
  | 0 => rfl
  | 1 => rfl
  | 2 =>
    show (512 * j.val + 1 * (x 2).val) % 512 = 0 + 1 * (x 2).val
    omega

/-- A member of a rectangle is one of its places. -/
theorem exists_emb {s : Shape} (r : Rect s) {i : s.Idx} (hi : i ∈ r.set) : ∃ x, r.emb x = i := by
  rw [LoadRect.mem_set] at hi
  choose x hx e using hi
  exact ⟨fun a => ⟨x a, hx a⟩, funext fun a => Fin.ext (e a).symm⟩

theorem packed_half (b j : Fin 2) (km vm : Vec F S2x256x512 .bf16) (g : Vec F S2x256x1024 .bf16) (w : Vec F S1x256x512 .bf16)
    (hw : ∀ x, w x = (if j.val = 0 then km else vm) ((srcR b).emb x)) (i : S2x256x1024.Idx) (hi : i ∈ (halfR b j).set) :
    ((Lm.access (halfR b j)).write (Elt F) g (packed w) Finset.univ : Vec F S2x256x1024 .bf16) i = pkOf km vm i := by
  obtain ⟨x, rfl⟩ := exists_emb _ hi
  have e : ((Lm.access (halfR b j)).write (Elt F) g (packed w) Finset.univ : Vec F S2x256x1024 .bf16) ((halfR b j).emb x) = packed w x := by
    refine (View.write_emb (v := Lm.access (halfR b j)) ..).trans ?_
    rw [if_pos (Finset.mem_univ _)]
    rfl
  rw [e]
  unfold packed
  rw [shapeCast_shapeCast, hw]
  unfold pkOf
  rw [keyIdx_half]
  have h2 : (x 2).val < 512 := (x 2).isLt
  have hj := j.isLt
  have e2 : (((halfR b j).emb x) 2).val = 512 * j.val + 1 * (x 2).val := rfl
  rw [e2]
  by_cases h : j.val = 0
  · rw [if_pos h, if_pos (by omega)]
  · rw [if_neg h, if_neg (by omega)]

/-- One half of a batch entry copied into the packed buffer. -/
theorem packHalf_rule {d : Dev nD} {Q : PUnit → sProp 𝕄} (src : Memref sig .tc .vmem S2x256x512 .bf16)
    (f : Buf (Elt F) (src.view.loc (d : Thread nD τ)))
    (km vm : Vec F S2x256x512 .bf16) (b j : Fin 2)
    (hsrc : ∀ x, src.view.readAt (Elt F) (srcR b).toLoadRect f x = (if j.val = 0 then km else vm) ((srcR b).emb x)) (k : Body F) :
    iprop((src.view.loc (d : Thread nD τ) ↦{fullShare} f) ∗ ∃ g, lPts d (halfR b j).set fullShare g) ⊢
      iprop(((src.view.loc (d : Thread nD τ) ↦{fullShare} f) ∗ lPts d (halfR b j).set fullShare (pkOf km vm) -∗ Runs d k Q)
        -∗ Runs d (packHalfK Lm (Memref.isWhole_whole _) src b j k) Q) := by
  unfold packHalfK
  iintro ⟨Hs, ⟨%g, Hl⟩⟩ Hk
  iapply (wp_load 𝒱₀ (d : Thread nD τ) none Set.univ (Finset.subset_univ _)) $$ Hs
  iintro Hs
  iapply (wp_load_rect (m := Lm) (r := halfR b j) (S := (halfR b j).set) 𝒱₀ (d : Thread nD τ) none Set.univ (by rw [View.set_slice_whole])) $$ Hl
  iintro Hl
  iapply (wp_store (m := Lm) (r := halfR b j) (S := (halfR b j).set) 𝒱₀ (d : Thread nD τ) none Set.univ (by rw [View.setOn_univ, View.set_slice_whole])) $$ Hl
  iintro Hl
  iapply Hk
  isplitl [Hs]; · iexact Hs
  rw [show lPts d (halfR b j).set fullShare (pkOf km vm) = (lPts d (halfR b j).set fullShare _ : sProp 𝕄) from
    pointsTo_congr fun i hi => (packed_half b j km vm g _ hsrc i hi).symm]
  iexact Hl

/-- A batch entry copied into the packed buffer. -/
theorem pack_rule {d : Dev nD} {Q : PUnit → sProp 𝕄} (km vm : Vec F S2x256x512 .bf16) (b : Fin 2) (k : Body F) :
    iprop(((d : Thread nD τ).loc cc0_stg1_0 ↦{fullShare} km) ∗ ((d : Thread nD τ).loc cc0_stg2_0 ↦{fullShare} vm)
        ∗ ∃ g, lPts d (batchSet b) fullShare g) ⊢
      iprop((((d : Thread nD τ).loc cc0_stg1_0 ↦{fullShare} km) ∗ ((d : Thread nD τ).loc cc0_stg2_0 ↦{fullShare} vm)
          ∗ lPts d (batchSet b) fullShare (pkOf km vm) -∗ Runs d k Q)
        -∗ Runs d (packK Km Vm Lm (Memref.isWhole_whole _) b k) Q) := by
  unfold packK
  rw [batch_halves]
  iintro ⟨HK, HV, ⟨%g, Hl⟩⟩ Hk
  ihave Hl := (pointsTo_union (half_disjoint b)).1 $$ Hl
  icases Hl with ⟨Hl0, Hl1⟩
  iapply (packHalf_rule (F := F) Km km km vm b 0 (fun x => rfl) _) $$ [HK Hl0]
  · isplitl [HK]; · iexact HK
    iexists g; iexact Hl0
  iintro ⟨HK, Hl0⟩
  iapply (packHalf_rule (F := F) Vm vm km vm b 1 (fun x => rfl) _) $$ [HV Hl1]
  · isplitl [HV]; · iexact HV
    iexists g; iexact Hl1
  iintro ⟨HV, Hl1⟩
  iapply Hk
  isplitl [HK]; · iexact HK
  isplitl [HV]; · iexact HV
  iapply (pointsTo_union (half_disjoint b)).2
  isplitl [Hl0] <;> iassumption

/-! ## Transfers -/

variable (pk : Dev nD → Vec F S2x256x1024 .bf16)

theorem startK_eq (src : Memref sig .tc .vmem S2x256x1024 .bf16) (hsrc : src.IsWhole) (sS sR : DmaSems sig S8)
    (p : Dev nD) (b : Fin 2) (c : Fin 8) (k : Body F) {s s' : DmaSem sig} (h : cellAt sS c = s) (h' : cellAt sR c = s') :
    startK (F := F) Rm (Memref.isWhole_whole _) src hsrc sS sR p b c k =
      .op (.enqueueDma (chunk src b c) (.remote (Dev.tc p) (chunk Rm b c) (.dma s)) (.dma s')
        (chunk_words hsrc b c) (chunk_words (Memref.isWhole_whole _) b c) ⟨⟨rfl, Or.inl rfl⟩, trivial⟩) fun _ => k := by
  subst h h'
  rfl

/-- Chunk `c` of batch entry `mx d` sent across `y`: the right half of the packed chunk stays with the transfer. -/
theorem sendY_rule {d : Dev nD} {Q : PUnit → sProp 𝕄} (K : GSem nD τ sig → ℕ) (c : Fin 8) (O : CellTallies nD τ sig Unit)
    (W : Waits sig Unit) (k : Body F) :
    iprop(records pk K ∗ lPts d (chunkR (mx d) c).set fullShare.right (pk d) ∗ (∃ f, rPts (ypeer d) (chunkR (mx d) c).set fullShare f)
        ∗ owes (d : Thread nD τ) (O + tallyAt (kCell 1 (ypeer d) c) () N) W
        ∗ (dutyTok ER (kCell 0 d c) 0 false ∗ reached ER (kCell 0 d c) 0)
        ∗ (dutyTok ER (kCell 1 (ypeer d) c) 0 false ∗ reached ER (kCell 1 (ypeer d) c) 0)) ⊢
      iprop((cred (tallyAt (kCell 0 d c) () N) ∗ owes (d : Thread nD τ) O W -∗ Runs d k Q)
        -∗ Runs d (startK Rm (Memref.isWhole_whole _) Lm (Memref.isWhole_whole _) cc0_scratch2 cc0_scratch3 (ypeer d) (mx d) c k) Q) := by
  rw [startK_eq _ _ _ _ _ _ _ _ (cellAt_ysend c) (cellAt_yrecv c)]
  iintro ⟨#HR, Hl, ⟨%fd, Hr⟩, HO, ⟨Ht0, #Hr0⟩, ⟨Ht1, #Hr1⟩⟩ Hk
  iapply (Rounds.wp_send_pointsTo 𝒱₀ ER (Rd pk) (d : Thread nD τ) none (c' := (ypeer d : Thread nD τ)) (src := chunk Lm (mx d) c) (dst := chunk Rm (mx d) c)
      (sS := .dma (sem 0 c)) (sem := .dma (sem 1 c)) (q := fullShare.right) (fs := pk d) (κ₁ := K (kCell 0 d c)) (κ₂ := K (kCell 1 (ypeer d) c))
      (r₁ := 0) (r₂ := 0) (d₁ := false) (d₂ := false) (fd := fd)
      (by rw [duties_k]; exact Finset.mem_singleton_self _) (by rw [duties_k]; exact Finset.mem_singleton_self _)
      () () N rfl (amount_k pk d 0 c false) (amount_k pk (ypeer d) 1 c false) O rfl (W := W)
      (by rw [payload_k]; unfold dmaPay; rw [chunk_setL])
      (by
        rw [payload_k]
        unfold dmaPay
        dsimp only
        rw [chunk_setR, mx_ypeer]
        exact Entails.of_eq (pointsTo_congr fun i hi => (landL (mx d) c fd (pk d) i hi).trans (got_ypeer pk d ((mem_chunk _ _ _).mp hi).1).symm)))
    $$ [Hl Hr HO Ht0 Ht1]
  · isplitr; · iapply (inv_k pk K 0 d c); iexact HR
    isplitr; · iapply (inv_k pk K 1 (ypeer d) c); iexact HR
    isplitl [Hl]; · rw [chunk_setL]; iexact Hl
    isplitl [Hr]; · rw [chunk_setR]; iexact Hr
    isplitl [HO]; · iexact HO
    isplitl [Ht0]; · iexact Ht0
    isplitr; · iexact Hr0
    isplitl [Ht1]; · iexact Ht1
    iexact Hr1
  iexact Hk

/-- Chunk `c` of batch entry `mx d`, received, passed on across `x`: the right half of it stays with the transfer. -/
theorem sendX_rule {d : Dev nD} {Q : PUnit → sProp 𝕄} (K : GSem nD τ sig → ℕ) (c : Fin 8) (O : CellTallies nD τ sig Unit)
    (W : Waits sig Unit) (k : Body F) :
    iprop(records pk K ∗ rPts d (chunkR (mx d) c).set fullShare.right (got pk d) ∗ (∃ f, rPts (xtwin d) (chunkR (mx d) c).set fullShare f)
        ∗ owes (d : Thread nD τ) (O + tallyAt (kCell 3 (xtwin d) c) () N) W
        ∗ (dutyTok ER (kCell 2 d c) 0 false ∗ reached ER (kCell 2 d c) 0)
        ∗ (dutyTok ER (kCell 3 (xtwin d) c) 0 false ∗ reached ER (kCell 3 (xtwin d) c) 0)) ⊢
      iprop((cred (tallyAt (kCell 2 d c) () N) ∗ owes (d : Thread nD τ) O W -∗ Runs d k Q)
        -∗ Runs d (startK Rm (Memref.isWhole_whole _) Rm (Memref.isWhole_whole _) cc0_scratch4 cc0_scratch5 (xtwin d) (mx d) c k) Q) := by
  rw [startK_eq _ _ _ _ _ _ _ _ (cellAt_fsend c) (cellAt_frecv c)]
  iintro ⟨#HR, Hl, ⟨%fd, Hr⟩, HO, ⟨Ht0, #Hr0⟩, ⟨Ht1, #Hr1⟩⟩ Hk
  iapply (Rounds.wp_send_pointsTo 𝒱₀ ER (Rd pk) (d : Thread nD τ) none (c' := (xtwin d : Thread nD τ)) (src := chunk Rm (mx d) c) (dst := chunk Rm (mx d) c)
      (sS := .dma (sem 2 c)) (sem := .dma (sem 3 c)) (q := fullShare.right) (fs := got pk d) (κ₁ := K (kCell 2 d c)) (κ₂ := K (kCell 3 (xtwin d) c))
      (r₁ := 0) (r₂ := 0) (d₁ := false) (d₂ := false) (fd := fd)
      (by rw [duties_k]; exact Finset.mem_singleton_self _) (by rw [duties_k]; exact Finset.mem_singleton_self _)
      () () N rfl (amount_k pk d 2 c false) (amount_k pk (xtwin d) 3 c false) O rfl (W := W)
      (by rw [payload_k]; unfold dmaPay; rw [chunk_setR])
      (by
        rw [payload_k]
        unfold dmaPay
        dsimp only
        rw [chunk_setR, ox_xtwin]
        exact Entails.of_eq (pointsTo_congr fun i hi => (landR (mx d) c fd (got pk d) i hi).trans (got_xtwin pk d ((mem_chunk _ _ _).mp hi).1).symm)))
    $$ [Hl Hr HO Ht0 Ht1]
  · isplitr; · iapply (inv_k pk K 2 d c); iexact HR
    isplitr; · iapply (inv_k pk K 3 (xtwin d) c); iexact HR
    isplitl [Hl]; · rw [chunk_setR]; iexact Hl
    isplitl [Hr]; · rw [chunk_setR]; iexact Hr
    isplitl [HO]; · iexact HO
    isplitl [Ht0]; · iexact Ht0
    isplitr; · iexact Hr0
    isplitl [Ht1]; · iexact Ht1
    iexact Hr1
  iexact Hk

/-- A wait for a transfer's cell takes what the transfer pays there. -/
theorem wait_rule {d : Dev nD} {Q : PUnit → sProp 𝕄} (K : GSem nD τ sig → ℕ) (kd : Fin 4) (c : Fin 8) (s : DmaSems sig S8) (hs : cellAt s c = sem kd c)
    (src dst : Memref sig .tc .vmem S2x256x1024 .bf16) (hsrc : src.IsWhole) (hdst : dst.IsWhole) (b : Fin 2)
    (hN : (chunk dst b c).view.dmaCredit = N) (O : CellTallies nD τ sig Unit) (W : Waits sig Unit) (k : Body F) :
    iprop(records pk K ∗ cred (tallyAt (kCell kd d c) () N) ∗ owes (d : Thread nD τ) O W ∗ MayWait (d : Thread nD τ) (.dma (sem kd c)) () O
        ∗ atPos ER (kCell kd d c) 0 ∅ 0) ⊢
      iprop((owes (d : Thread nD τ) O (insert (SemLoc.dma (sem kd c), ()) W) ∗ atPos ER (kCell kd d c) (0 + 1) ∅ 0 ∗ dmaPay pk d kd c -∗ Runs d k Q)
        -∗ Runs d (waitK s src dst hsrc hdst b c k) Q) := by
  unfold waitK
  rw [hs]
  iintro ⟨#HR, Hc, HO, HM, Hat⟩ Hk
  iapply (Rounds.wp_wait_rest_token 𝒱₀ ER (Rd pk) (d : Thread nD τ) none (κ := K (kCell kd d c))
      (wpE_waitDma2_eq (src := chunk src b c) (dst := chunk dst b c) 𝒱₀ (d : Thread nD τ) none Set.univ) (Set.mem_univ _) () (O := O) (W := W) (R := 0) (m := 0) (T := ∅)
      ((Nat.zero_add _).trans (hN.trans (expect_k pk d kd c).symm))) $$ [Hc HO HM Hat]
  · isplitr; · iapply (inv_k pk K kd d c); iexact HR
    isplitl [Hc]; · rw [hN]; iexact Hc
    isplitl [HO]; · iexact HO
    isplitl [HM] <;> iassumption
  iintro ⟨HO, Hat, -, Hpay⟩
  ihave Hpay := (Entails.of_eq (rest_k pk d kd c)) $$ Hpay
  iapply Hk
  isplitl [HO]; · iexact HO
  isplitl [Hat] <;> iassumption

end Cert.KernelIdeal.Att

end
-- ==== Proof.Heads.lean ====
/- The arithmetic stretches of the body: what each reads and what it leaves in the result. -/
module

public import proofs.«01_k».proof.Proof.Steps

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The result as a function of the queries and the two packed buffers -/

/-- A head pair's keys (`j = 0`) or values (`j = 1`) in a packed buffer, and a head's queries. -/
def pairAt (v : Vec F S2x256x1024 .bf16) (b j : Fin 2) (hh : Fin 4) : Vec F S1x256x128 .bf16 := fun x => v ((pairR b j hh).emb x)
def queryAt (q : Vec F S2x8x256x64 .bf16) (b : Fin 2) (h : Fin 8) : Vec F S1x1x256x64 .bf16 := fun x => q ((headR b h).emb x)

/-- What is stored for head `i` of pair `hh` of batch entry `b`. -/
def headVal (q : Vec F S2x8x256x64 .bf16) (v r : Vec F S2x256x1024 .bf16) (b : Fin 2) (hh : Fin 4) (i : Fin 2) : FVec F S1x1x256x64 .f32 :=
  headOut i (queryAt q b (headOf hh i)) (pairAt v b 0 hh) (pairAt v b 1 hh) (pairAt r b 0 hh) (pairAt r b 1 hh)

/-- The place within its head of a place of the result. -/
def headIdx (i : S2x8x256x64.Idx) : S1x1x256x64.Idx := fun a =>
  match a with
  | 0 => ⟨0, by decide⟩
  | 1 => ⟨0, by decide⟩
  | 2 => ⟨(i 2).val, (i 2).isLt⟩
  | 3 => ⟨(i 3).val, (i 3).isLt⟩

/-- The result, from the queries `q`, the device's own packed buffer `v` and its receive buffer `r`. -/
def attOf (q : Vec F S2x8x256x64 .bf16) (v r : Vec F S2x256x1024 .bf16) : Vec F S2x8x256x64 .f32 := fun i =>
  headVal q v r ⟨(i 0).val, (i 0).isLt⟩ ⟨(i 1).val / 2, by have : (i 1).val < 8 := (i 1).isLt; omega⟩ ⟨(i 1).val % 2, by omega⟩ (headIdx i)

theorem attOf_emb (q : Vec F S2x8x256x64 .bf16) (v r : Vec F S2x256x1024 .bf16) (b : Fin 2) (hh : Fin 4) (i : Fin 2) (x : S1x1x256x64.Idx) :
    attOf q v r ((headR b (headOf hh i)).emb x) = headVal q v r b hh i x := by
  have h0 : (x 0).val < 1 := (x 0).isLt
  have h1 : (x 1).val < 1 := (x 1).isLt
  have e0 : (((headR b (headOf hh i)).emb x) 0).val = b.val + 1 * (x 0).val := rfl
  have e1 : (((headR b (headOf hh i)).emb x) 1).val = 2 * hh.val + i.val + 1 * (x 1).val := rfl
  have hi := i.isLt
  have ex : headIdx ((headR b (headOf hh i)).emb x) = x := by
    funext a
    apply Fin.ext
    match a with
    | 0 => show 0 = (x 0).val; omega
    | 1 => show 0 = (x 1).val; omega
    | 2 => show 0 + 1 * (x 2).val = (x 2).val; omega
    | 3 => show 0 + 1 * (x 3).val = (x 3).val; omega
  unfold attOf
  rw [ex]
  congr 1
  · exact Fin.ext (by dsimp only; omega)
  · exact Fin.ext (by dsimp only; omega)
  · exact Fin.ext (by dsimp only; omega)

/-- What the local work of a step reads. -/
def loadedOf (q : Vec F S2x8x256x64 .bf16) (v : Vec F S2x256x1024 .bf16) (b : Fin 2) (hh : Fin 4) : Loaded F :=
  ⟨pairAt v b 0 hh, pairAt v b 1 hh, queryAt q b (headOf hh 0), queryAt q b (headOf hh 1)⟩

theorem unitB_unitOf : ∀ (b : Fin 2) (hh : Fin 4), unitB (unitOf b hh) = b := by decide
theorem unitH_unitOf : ∀ (b : Fin 2) (hh : Fin 4), unitH (unitOf b hh) = hh := by decide

/-! ## Rules -/

abbrev qPts (d : Dev nD) (f : Vec F S2x8x256x64 .bf16) : sProp 𝕄 := (d : Thread nD τ).loc cc0_stg0_0 ↦{fullShare} f
abbrev oPts (d : Dev nD) (I : Finset S2x8x256x64.Idx) (f : Vec F S2x8x256x64 .f32) : sProp 𝕄 := (d : Thread nD τ).loc cc0_stg3_0 ↦[I]{fullShare} f

theorem local_rule {d : Dev nD} {Q : PUnit → sProp 𝕄} (q : Vec F S2x8x256x64 .bf16) (v : Vec F S2x256x1024 .bf16) (sh : PosShare TreeShare)
    (b : Fin 2) (hh : Fin 4) (k : Loaded F → Body F) :
    iprop(qPts d q ∗ lPts d Finset.univ sh v) ⊢
      iprop((qPts d q ∗ lPts d Finset.univ sh v -∗ Runs d (k (loadedOf q v b hh)) Q) -∗ Runs d (localK Qm Lm b hh k) Q) := by
  unfold localK
  iintro ⟨Hq, Hl⟩ Hk
  iapply (wp_load (m := Lm) (S := Finset.univ) 𝒱₀ (d : Thread nD τ) none Set.univ (Finset.subset_univ _)) $$ Hl
  iintro Hl
  iapply (wp_load (m := Lm) (S := Finset.univ) 𝒱₀ (d : Thread nD τ) none Set.univ (Finset.subset_univ _)) $$ Hl
  iintro Hl
  iapply (wp_load (m := Qm) (S := Finset.univ) 𝒱₀ (d : Thread nD τ) none Set.univ (Finset.subset_univ _)) $$ Hq
  iintro Hq
  iapply (wp_load (m := Qm) (S := Finset.univ) 𝒱₀ (d : Thread nD τ) none Set.univ (Finset.subset_univ _)) $$ Hq
  iintro Hq
  iapply Hk
  isplitl [Hq] <;> iassumption

/-- One head of the result stored. -/
theorem out_rule {d : Dev nD} {Q : PUnit → sProp 𝕄} (q : Vec F S2x8x256x64 .bf16) (v r : Vec F S2x256x1024 .bf16)
    (b : Fin 2) (hh : Fin 4) (i : Fin 2) (w : FVec F S1x1x256x64 .f32) (hw : w = headVal q v r b hh i) (k : Body F) :
    iprop(∃ f, oPts d (headSet (b, hh, i)) f) ⊢
      iprop((oPts d (headSet (b, hh, i)) (attOf q v r) -∗ Runs d k Q) -∗ Runs d (outK Om b (headOf hh i) w k) Q) := by
  subst hw
  unfold outK
  iintro ⟨%f, Ho⟩ Hk
  iapply (wp_load_rect (m := Om) (r := headR b (headOf hh i)) (S := headSet (b, hh, i)) 𝒱₀ (d : Thread nD τ) none Set.univ (by rw [View.set_slice_whole])) $$ Ho
  iintro Ho
  iapply (wp_store (m := Om) (r := headR b (headOf hh i)) (S := headSet (b, hh, i)) 𝒱₀ (d : Thread nD τ) none Set.univ (by rw [View.setOn_univ, View.set_slice_whole])) $$ Ho
  iintro Ho
  iapply Hk
  rw [show oPts d (headSet (b, hh, i)) (attOf q v r) = (oPts d (headSet (b, hh, i)) ((Om.access (headR b (headOf hh i))).write (Elt F) f (headVal q v r b hh i) Finset.univ) : sProp 𝕄) from
    pointsTo_congr fun y hy => by
      obtain ⟨x, rfl⟩ := exists_emb _ hy
      rw [attOf_emb]
      refine Eq.symm ((View.write_emb (v := Om.access (headR b (headOf hh i))) ..).trans ?_)
      rw [if_pos (Finset.mem_univ _)]
      rfl]
  iexact Ho

theorem bigSep_two (Φ : Fin 2 → sProp 𝕄) : bigSep Finset.univ Φ = iprop(Φ 0 ∗ Φ 1) := BI.bigSep_fin_two Φ

/-- A head pair of the result, from the received keys and values. -/
theorem remote_rule {d : Dev nD} {Q : PUnit → sProp 𝕄} (q : Vec F S2x8x256x64 .bf16) (v r : Vec F S2x256x1024 .bf16) (sh : PosShare TreeShare)
    (b : Fin 2) (hh : Fin 4) (k : Body F) :
    iprop((bigSep Finset.univ fun i : Fin 2 => iprop(∃ f, oPts d (headSet (b, hh, i)) f)) ∗ rPts d (batchSet b) sh r) ⊢
      iprop(((bigSep Finset.univ fun i : Fin 2 => oPts d (headSet (b, hh, i)) (attOf q v r)) ∗ rPts d (batchSet b) sh r -∗ Runs d k Q)
        -∗ Runs d (remoteK Om Rm b hh (loadedOf q v b hh) k) Q) := by
  unfold remoteK
  rw [bigSep_two, bigSep_two]
  iintro ⟨⟨H0, H1⟩, Hr⟩ Hk
  iapply (wp_load_rect (m := Rm) (r := pairR b 0 hh) (S := batchSet b) 𝒱₀ (d : Thread nD τ) none Set.univ (by rw [View.set_slice_whole]; exact pair_sub b 0 hh)) $$ Hr
  iintro Hr
  iapply (wp_load_rect (m := Rm) (r := pairR b 1 hh) (S := batchSet b) 𝒱₀ (d : Thread nD τ) none Set.univ (by rw [View.set_slice_whole]; exact pair_sub b 1 hh)) $$ Hr
  iintro Hr
  iapply (out_rule q v r b hh 0 _ rfl _) $$ H0
  iintro H0
  iapply (out_rule q v r b hh 1 _ rfl _) $$ H1
  iintro H1
  iapply Hk
  isplitr [Hr]
  · isplitl [H0] <;> iassumption
  iexact Hr

/-- A batch entry of the result. -/
theorem batch_rule {d : Dev nD} {Q : PUnit → sProp 𝕄} (q : Vec F S2x8x256x64 .bf16) (v r : Vec F S2x256x1024 .bf16) (sh : PosShare TreeShare)
    (b : Fin 2) (k : Body F) :
    iprop((bigSep Finset.univ fun p : Fin 4 × Fin 2 => iprop(∃ f, oPts d (headSet (b, p)) f)) ∗ rPts d (batchSet b) sh r) ⊢
      iprop(((bigSep Finset.univ fun p : Fin 4 × Fin 2 => oPts d (headSet (b, p)) (attOf q v r)) ∗ rPts d (batchSet b) sh r -∗ Runs d k Q)
        -∗ Runs d (batchK Om Rm b (fun c => loadedOf q v (unitB c) (unitH c)) k) Q) := by
  have e : batchK Om Rm b (fun c => loadedOf q v (unitB c) (unitH c)) k =
      [0, 1, 2, 3].foldr (fun (hh : Fin 4) k => remoteK Om Rm b hh (loadedOf q v b hh) k) k := by
    unfold batchK
    simp only [unitB_unitOf, unitH_unitOf]
    rfl
  rw [e, bigSep_univ_prod, bigSep_univ_prod, bigSep_univ_eq_bigSepL [0, 1, 2, 3] (by decide) (by decide), bigSep_univ_eq_bigSepL [0, 1, 2, 3] (by decide) (by decide)]
  refine BIBase.Entails.trans ?_ (list_rule (F := F) (d := d) (Q := Q) iprop(emp) (fun (hh : Fin 4) k => remoteK Om Rm b hh (loadedOf q v b hh) k)
    (fun hh => bigSep Finset.univ fun i : Fin 2 => iprop(∃ f, oPts d (headSet (b, hh, i)) f))
    (fun hh => bigSep Finset.univ fun i : Fin 2 => oPts d (headSet (b, hh, i)) (attOf q v r))
    (fun _ => rPts d (batchSet b) sh r) (fun hh l k => ?_) [0, 1, 2, 3] k)
  · iintro ⟨H, Hr⟩
    isplitr; · iempintro
    isplitl [H] <;> iassumption
  · iintro ⟨-, H, Hr⟩ Hk
    iapply (remote_rule q v r sh b hh k) $$ [H Hr]
    · isplitl [H] <;> iassumption
    iexact Hk

end Cert.KernelIdeal.Att

end
-- ==== Proof.Phases.lean ====
/- The stretches of eight: the chunks sent, the chunks taken in and passed on, the transfers waited for. -/
module

public import proofs.«01_k».proof.Proof.Heads
public import Idealize.ShloMosaic.Lib.Rounds.Family
public import Idealize.ShloMosaic.Harness.Basic

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

-- what each device's packed buffer holds
variable (pk : Dev nD → Vec F S2x256x1024 .bf16)

/-- Every cell of the device's own transfers is open. -/
def opens (d : Dev nD) : sProp 𝕄 := bigSep Finset.univ fun x : Fin 4 × Fin 8 => reached ER (kCell x.1 d x.2) 0

instance opens_persistent (d : Dev nD) : BI.Persistent (opens (F := F) d) := by unfold opens; infer_instance

theorem open_at (d : Dev nD) (k : Fin 4) (c : Fin 8) : opens (F := F) d ⊢ reached ER (kCell k d c) 0 :=
  bigSep_elim (s := Finset.univ) (Φ := fun x : Fin 4 × Fin 8 => (reached ER (kCell x.1 d x.2) 0 : sProp 𝕄)) (i := (k, c)) (Finset.mem_univ _)

/-- What stays true for the whole of the body. -/
def facts (K : GSem nD τ sig → ℕ) (d : Dev nD) : sProp 𝕄 := iprop(records pk K ∗ levAts L lv ∗ opens d)

instance facts_persistent (K : GSem nD τ sig → ℕ) (d : Dev nD) : BI.Persistent (facts pk K d) := by unfold facts; infer_instance

/-! ## The chunks sent across `y` -/

theorem sends_rule {d : Dev nD} {Q : PUnit → sProp 𝕄} (K : GSem nD τ sig → ℕ) (k : Body F) :
    iprop(facts pk K d ∗ (bigSep Finset.univ fun c => iprop(lPts d (chunkR (mx d) c).set fullShare.right (pk d)
          ∗ ((∃ f, rPts (ypeer d) (chunkR (mx d) c).set fullShare f) ∗ reached ER (kCell 1 (ypeer d) c) 0)
          ∗ dutyTok ER (kCell 0 d c) 0 false ∗ dutyTok ER (kCell 1 (ypeer d) c) 0 false))
        ∗ ∃ W, owes (d : Thread nD τ) (O₂ d) W) ⊢
      iprop(((bigSep Finset.univ fun c => cred (tallyAt (kCell 0 d c) () N)) ∗ (∃ W, owes (d : Thread nD τ) (owing 3 (xtwin d) all8) W) -∗ Runs d k Q)
        -∗ Runs d (eachK (fun c => startK Rm (Memref.isWhole_whole _) Lm (Memref.isWhole_whole _) cc0_scratch2 cc0_scratch3 (ypeer d) (mx d) c) k) Q) := by
  have h := each_rule (F := F) (d := d) (Q := Q) (facts pk K d)
    (fun c => startK Rm (Memref.isWhole_whole _) Lm (Memref.isWhole_whole _) cc0_scratch2 cc0_scratch3 (ypeer d) (mx d) c)
    (fun c => iprop(lPts d (chunkR (mx d) c).set fullShare.right (pk d)
          ∗ ((∃ f, rPts (ypeer d) (chunkR (mx d) c).set fullShare f) ∗ reached ER (kCell 1 (ypeer d) c) 0)
          ∗ dutyTok ER (kCell 0 d c) 0 false ∗ dutyTok ER (kCell 1 (ypeer d) c) 0 false))
    (fun c => cred (tallyAt (kCell 0 d c) () N))
    (fun l => iprop(∃ W, owes (d : Thread nD τ) (owing 1 (ypeer d) l + owing 3 (xtwin d) all8) W))
    (fun c l k => by
      unfold facts
      rw [owing_cons, add_right_comm]
      iintro ⟨⟨#HR, -, #Ho⟩, ⟨Hl, ⟨Hr, #Hr1⟩, Ht0, Ht1⟩, ⟨%W, HO⟩⟩ Hk
      iapply (sendY_rule pk K c (owing 1 (ypeer d) l + owing 3 (xtwin d) all8) W k) $$ [Hl Hr HO Ht0 Ht1]
      · isplitr; · iexact HR
        isplitl [Hl]; · iexact Hl
        isplitl [Hr]; · iexact Hr
        isplitl [HO]; · iexact HO
        isplitl [Ht0]
        · isplitl [Ht0]; · iexact Ht0
          iapply (open_at d 0 c); iexact Ho
        isplitl [Ht1]; · iexact Ht1
        iexact Hr1
      iintro ⟨Hc, HO⟩
      iapply Hk
      isplitl [Hc]; · iexact Hc
      iexists W; iexact HO) k
  rw [owing_nil, zero_add] at h
  exact h

/-! ## The chunks taken in and passed on -/

/-- The steps of a list of chunks, one after the other, what they read gathered. -/
def stepsL (s : Fin 8 → (Loaded F → Body F) → Body F) : List (Fin 8) → (Fin 8 → Loaded F) → ((Fin 8 → Loaded F) → Body F) → Body F
  | [], us, k => k us
  | c :: l, us, k => s c fun u => stepsL s l (Function.update us c u) k

theorem stepsK_eq (m : Fin 2) (xd : Dev nD) (us : Fin 8 → Loaded F) (k : (Fin 8 → Loaded F) → Body F) :
    stepsK Qm Lm (Memref.isWhole_whole _) Rm (Memref.isWhole_whole _) cc0_scratch3 cc0_scratch4 cc0_scratch5 m xd k =
      stepsL (stepK Qm Lm (Memref.isWhole_whole _) Rm (Memref.isWhole_whole _) cc0_scratch3 cc0_scratch4 cc0_scratch5 m xd) all8 us k := by
  unfold stepsK
  dsimp only [stepsL]
  congr 1; funext u0; congr 1; funext u1; congr 1; funext u2; congr 1; funext u3
  congr 1; funext u4; congr 1; funext u5; congr 1; funext u6; congr 1; funext u7
  refine congrArg k (funext fun i => ?_)
  fin_cases i <;> rfl

/-- A rule for each step, in order, each reading what `ld` says. -/
theorem steps_rule {d : Dev nD} {Q : PUnit → sProp 𝕄} (I : sProp 𝕄) [BI.Persistent I] (s : Fin 8 → (Loaded F → Body F) → Body F)
    (Pend Done : Fin 8 → sProp 𝕄) (T : List (Fin 8) → sProp 𝕄) (ld : Fin 8 → Loaded F)
    (step : ∀ c l k, iprop(I ∗ Pend c ∗ T (c :: l)) ⊢ iprop((Done c ∗ T l -∗ Runs d (k (ld c)) Q) -∗ Runs d (s c k) Q)) :
    ∀ (l : List (Fin 8)) (us : Fin 8 → Loaded F) (_ : ∀ c, c ∉ l → us c = ld c) (k : (Fin 8 → Loaded F) → Body F),
      iprop(I ∗ bigSepL l Pend ∗ T l) ⊢ iprop((bigSepL l Done ∗ T [] -∗ Runs d (k ld) Q) -∗ Runs d (stepsL s l us k) Q)
  | [], us, hus, k => by
    rw [bigSepL_nil, bigSepL_nil, show us = ld from funext fun c => hus c (List.not_mem_nil)]
    unfold stepsL
    iintro ⟨-, -, HT⟩ Hk
    iapply Hk
    isplitr; · iempintro
    iexact HT
  | c :: l, us, hus, k => by
    rw [bigSepL_cons', bigSepL_cons']
    unfold stepsL
    iintro ⟨#HI, ⟨Hp, Hps⟩, HT⟩ Hk
    iapply (step c l _) $$ [Hp HT]
    · isplitr; · iexact HI
      isplitl [Hp] <;> iassumption
    iintro ⟨Hd, HT⟩
    iapply (steps_rule I s Pend Done T ld step l (Function.update us c (ld c)) (fun c' hc' => by
      by_cases e : c' = c
      · subst e; exact Function.update_self ..
      · rw [Function.update_of_ne e]; exact hus c' (fun h => (List.mem_cons.mp h).elim e hc')) k) $$ [Hps HT]
    · isplitr; · iexact HI
      isplitl [Hps] <;> iassumption
    iintro ⟨Hds, HT⟩
    iapply Hk
    isplitr [HT]
    · isplitl [Hd] <;> iassumption
    iexact HT

theorem takes_rule {d : Dev nD} {Q : PUnit → sProp 𝕄} (K : GSem nD τ sig → ℕ) (q : Vec F S2x8x256x64 .bf16) (k : (Fin 8 → Loaded F) → Body F) :
    iprop(facts pk K d ∗ (bigSep Finset.univ fun c => iprop((cred (tallyAt (kCell 1 d c) () N) ∗ atPos ER (kCell 1 d c) 0 ∅ 0)
          ∗ ((∃ f, rPts (xtwin d) (chunkR (mx d) c).set fullShare f) ∗ reached ER (kCell 3 (xtwin d) c) 0)
          ∗ dutyTok ER (kCell 2 d c) 0 false ∗ dutyTok ER (kCell 3 (xtwin d) c) 0 false))
        ∗ (∃ W, owes (d : Thread nD τ) (owing 3 (xtwin d) all8) W) ∗ qPts d q ∗ lPts d Finset.univ fullShare.left (pk d)) ⊢
      iprop(((bigSep Finset.univ fun c => iprop(atPos ER (kCell 1 d c) (0 + 1) ∅ 0 ∗ rPts d (chunkR (mx d) c).set fullShare.left (got pk d)
            ∗ cred (tallyAt (kCell 2 d c) () N)))
          ∗ (∃ W, owes (d : Thread nD τ) (0 : CellTallies nD τ sig Unit) W) ∗ qPts d q ∗ lPts d Finset.univ fullShare.left (pk d)
          -∗ Runs d (k fun c => loadedOf q (pk d) (unitB c) (unitH c)) Q)
        -∗ Runs d (stepsK Qm Lm (Memref.isWhole_whole _) Rm (Memref.isWhole_whole _) cc0_scratch3 cc0_scratch4 cc0_scratch5 (mx d) (xtwin d) k) Q) := by
  rw [stepsK_eq _ _ (fun c => loadedOf q (pk d) (unitB c) (unitH c)),
    bigSep_univ_eq_bigSepL all8 (by decide) (by decide), bigSep_univ_eq_bigSepL all8 (by decide) (by decide)]
  refine steps_rule (F := F) (d := d) (Q := Q) (facts pk K d) _ _ _
    (fun l => iprop((∃ W, owes (d : Thread nD τ) (owing 3 (xtwin d) l) W) ∗ qPts d q ∗ lPts d Finset.univ fullShare.left (pk d)))
    (fun c => loadedOf q (pk d) (unitB c) (unitH c)) (fun c l k => ?_) all8 _ (fun _ _ => rfl) k
  unfold facts stepK
  iintro ⟨⟨#HR, #Hlev, #Ho⟩, ⟨⟨Hc, Hat⟩, ⟨Hx, #Hx3⟩, Ht2, Ht3⟩, ⟨%W, HO⟩, Hq, Hl⟩ Hk
  iapply (wait_rule pk K 1 c cc0_scratch3 (cellAt_yrecv c) Lm Rm _ _ (mx d) (N_eq _ _) (owing 3 (xtwin d) (c :: l)) W _) $$ [Hc Hat HO]
  · isplitr; · iexact HR
    isplitl [Hc]; · iexact Hc
    isplitl [HO]; · iexact HO
    isplitr; · iapply (mayWait_y d c (c :: l)); iexact Hlev
    iexact Hat
  iintro ⟨HO, Hat, Hr⟩
  unfold dmaPay
  ihave Hr := (pointsTo_share (PosShare.mem_left_op_right fullShare)).1 $$ Hr
  icases Hr with ⟨HrL, HrR⟩
  rw [owing_cons]
  iapply (sendX_rule pk K c (owing 3 (xtwin d) l) _ _) $$ [HrR Hx HO Ht2 Ht3]
  · isplitr; · iexact HR
    isplitl [HrR]; · iexact HrR
    isplitl [Hx]; · iexact Hx
    isplitl [HO]; · iexact HO
    isplitl [Ht2]
    · isplitl [Ht2]; · iexact Ht2
      iapply (open_at d 2 c); iexact Ho
    isplitl [Ht3]; · iexact Ht3
    iexact Hx3
  iintro ⟨Hc, HO⟩
  iapply (local_rule q (pk d) fullShare.left (unitB c) (unitH c) k) $$ [Hq Hl]
  · isplitl [Hq] <;> iassumption
  iintro ⟨Hq, Hl⟩
  iapply Hk
  isplitl [Hat HrL Hc]
  · isplitl [Hat]; · iexact Hat
    isplitl [HrL] <;> iassumption
  isplitl [HO]; · iexists _; iexact HO
  isplitl [Hq] <;> iassumption

/-! ## The transfers waited for at the end -/

theorem drain_rule {d : Dev nD} {Q : PUnit → sProp 𝕄} (K : GSem nD τ sig → ℕ) (kd : Fin 4) (s : DmaSems sig S8) (hs : ∀ c, cellAt s c = sem kd c)
    (src dst : Memref sig .tc .vmem S2x256x1024 .bf16) (hsrc : src.IsWhole) (hdst : dst.IsWhole) (b : Fin 2)
    (hN : ∀ c, (chunk dst b c).view.dmaCredit = N) (k : Body F) :
    iprop(facts pk K d ∗ (bigSep Finset.univ fun c => iprop(cred (tallyAt (kCell kd d c) () N) ∗ atPos ER (kCell kd d c) 0 ∅ 0))
        ∗ ∃ W, owes (d : Thread nD τ) (0 : CellTallies nD τ sig Unit) W) ⊢
      iprop(((bigSep Finset.univ fun c => iprop(atPos ER (kCell kd d c) (0 + 1) ∅ 0 ∗ dmaPay pk d kd c))
          ∗ (∃ W, owes (d : Thread nD τ) (0 : CellTallies nD τ sig Unit) W) -∗ Runs d k Q)
        -∗ Runs d (eachK (fun c => waitK s src dst hsrc hdst b c) k) Q) := by
  refine each_rule (F := F) (d := d) (Q := Q) (facts pk K d) _ _ _
    (fun l => iprop(∃ W, owes (d : Thread nD τ) (0 : CellTallies nD τ sig Unit) W)) (fun c l k => ?_) k
  unfold facts
  iintro ⟨⟨#HR, -, -⟩, ⟨Hc, Hat⟩, ⟨%W, HO⟩⟩ Hk
  iapply (wait_rule pk K kd c s (hs c) src dst hsrc hdst b (hN c) 0 W _) $$ [Hc Hat HO]
  · isplitr; · iexact HR
    isplitl [Hc]; · iexact Hc
    isplitl [HO]; · iexact HO
    isplitr; · rw [MayWait_zero]; iempintro
    iexact Hat
  iintro ⟨HO, Hat, Hp⟩
  iapply Hk
  isplitl [Hat Hp]
  · isplitl [Hat] <;> iassumption
  iexists _; iexact HO

end Cert.KernelIdeal.Att

end
-- ==== Proof.Body.lean ====
/- The whole body, run once at a device that is a variable. -/
module

public import proofs.«01_k».proof.Proof.Phases

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

/-! ## Buffers cut and put together -/

theorem bigSep_places (d : Dev nD) (Φ : Fin 2 → sProp 𝕄) : bigSep Finset.univ Φ = iprop(Φ (mx d) ∗ Φ (ox d)) := by
  rw [show (Finset.univ : Finset (Fin 2)) = insert (mx d) {ox d} from by revert d; decide,
    bigSep_insert (by rw [Finset.mem_singleton]; exact mx_ne_ox d), bigSep_singleton]
  rfl

theorem bigSep_four (Φ : Fin 4 × Fin 8 → sProp 𝕄) :
    bigSep Finset.univ Φ = iprop((bigSep Finset.univ fun c => Φ (0, c)) ∗ (bigSep Finset.univ fun c => Φ (1, c))
      ∗ (bigSep Finset.univ fun c => Φ (2, c)) ∗ (bigSep Finset.univ fun c => Φ (3, c))) := by
  rw [bigSep_univ_prod, bigSep_univ_eq_bigSepL [0, 1, 2, 3] (by decide) (by decide)]
  rfl

theorem l_batches (d : Dev nD) (q : PosShare TreeShare) (f : Vec F S2x256x1024 .bf16) :
    lPts d Finset.univ q f ⊣⊢ iprop(lPts d (batchSet (mx d)) q f ∗ lPts d (batchSet (ox d)) q f) := by
  rw [univ_batches (mx d) (ox d) (mx_ne_ox d)]
  exact pointsTo_union (batch_disjoint _ _ (mx_ne_ox d))
theorem r_batches (d : Dev nD) (q : PosShare TreeShare) (f : Vec F S2x256x1024 .bf16) :
    rPts d Finset.univ q f ⊣⊢ iprop(rPts d (batchSet (mx d)) q f ∗ rPts d (batchSet (ox d)) q f) := by
  rw [univ_batches (mx d) (ox d) (mx_ne_ox d)]
  exact pointsTo_union (batch_disjoint _ _ (mx_ne_ox d))

theorem l_chunks (d : Dev nD) (b : Fin 2) (q : PosShare TreeShare) (f : Vec F S2x256x1024 .bf16) :
    lPts d (batchSet b) q f = bigSep Finset.univ fun c : Fin 8 => lPts d (chunkR b c).set q f := by
  rw [batch_chunks]
  exact pointsTo_biUnion _ _ fun c _ c' _ h => chunk_disjoint b c c' h
theorem r_chunks (d : Dev nD) (b : Fin 2) (q : PosShare TreeShare) (f : Vec F S2x256x1024 .bf16) :
    rPts d (batchSet b) q f = bigSep Finset.univ fun c : Fin 8 => rPts d (chunkR b c).set q f := by
  rw [batch_chunks]
  exact pointsTo_biUnion _ _ fun c _ c' _ h => chunk_disjoint b c c' h

/-- A batch entry of the receive buffer, offered for chunks of kind `k` to land in. -/
theorem slots_intro (d : Dev nD) (k : Fin 4) (b : Fin 2) (f : Vec F S2x256x1024 .bf16) :
    iprop(opens d ∗ rPts d (batchSet b) fullShare f) ⊢ slots (F := F) d k b := by
  unfold slots
  rw [r_chunks]
  refine bigSep_with_persistent fun c _ => ?_
  iintro ⟨#Ho, Hr⟩
  isplitl [Hr]; · iexists f; iexact Hr
  iapply (open_at d k c); iexact Ho

theorem o_heads (d : Dev nD) (f : Vec F S2x8x256x64 .f32) :
    oPts d Finset.univ f = iprop((bigSep Finset.univ fun p : Fin 4 × Fin 2 => oPts d (headSet (mx d, p)) f)
      ∗ bigSep Finset.univ fun p : Fin 4 × Fin 2 => oPts d (headSet (ox d, p)) f) := by
  rw [univ_heads, show (oPts d (Finset.univ.biUnion headSet) f : sProp 𝕄) = _ from pointsTo_biUnion _ _ fun c _ c' _ h => head_disjoint c c' h,
    bigSep_univ_prod, bigSep_places d]

theorem o_open (d : Dev nD) (b : Fin 2) (f : Vec F S2x8x256x64 .f32) :
    (bigSep Finset.univ fun p : Fin 4 × Fin 2 => oPts d (headSet (b, p)) f) ⊢
      (bigSep Finset.univ fun p : Fin 4 × Fin 2 => iprop(∃ f, oPts d (headSet (b, p)) f) : sProp 𝕄) :=
  bigSep_mono fun p _ => show (oPts d (headSet (b, p)) f : sProp 𝕄) ⊢ iprop(∃ f, oPts d (headSet (b, p)) f) by iintro H; iexists f; iexact H

variable (pk : Dev nD → Vec F S2x256x1024 .bf16)

/-! ## The signals and the wait for both neighbours -/

theorem handshake_rule {d : Dev nD} {Q : PUnit → sProp 𝕄} (K : GSem nD τ sig → ℕ) (W : Waits sig Unit) (k : Body F) :
    iprop(facts pk K d ∗ slots d 1 (mx d) ∗ slots d 3 (ox d) ∗ dutyTok ER (barCell (ypeer d)) 0 false ∗ dutyTok ER (barCell (xtwin d)) 0 true
        ∗ atPos ER (barCell d) 0 ∅ 0 ∗ cred (tallyAt (barCell d) () 2) ∗ owes (d : Thread nD τ) (O₀ d) W) ⊢
      iprop((slots (ypeer d) 1 (mx d) ∗ slots (xtwin d) 3 (mx d) ∗ atPos ER (barCell d) (0 + 1) ∅ 0
            ∗ (∃ W, owes (d : Thread nD τ) (O₂ d) W) -∗ Runs d k Q)
        -∗ Runs d (.op (.semSignal (Dev.tc (ypeer d)) (sig.barrier 0 rfl) 1) fun _ =>
          .op (.semSignal (Dev.tc (xtwin d)) (sig.barrier 0 rfl) 1) fun _ => .op (.semWait (sig.barrier 0 rfl) 2) fun _ => k) Q) := by
  unfold facts
  iintro ⟨⟨#HR, #Hlev, -⟩, Hy, Hx, Ht1, Ht2, Hat, Hc, HO⟩ Hk
  iapply (Rounds.wp_signal 𝒱₀ ER (Rd pk) (d : Thread nD τ) none (dst := (ypeer d : Thread nD τ)) (sem := barS) (r := 0) (d := false)
    (κ := K (barCell (ypeer d))) (by rw [duties_bar]; decide) (amount_bar pk (ypeer d) false) () (O₂ d + tallyAt (barCell (xtwin d)) () 1) rfl) $$ [HO Ht1 Hy]
  · isplitr; · iapply (inv_bar pk K (ypeer d)); iexact HR
    isplitl [HO]; · iexact HO
    isplitl [Ht1]; · iexact Ht1
    isplitl [Hy]
    · rw [payload_bar, show barPay (ypeer d) false = slots (F := F) (ypeer (ypeer d)) 1 (mx (ypeer d)) from rfl, ypeer_ypeer, mx_ypeer]; iexact Hy
    iapply (reached_bar pk K (ypeer d)); iexact HR
  iintro HO
  iapply (Rounds.wp_signal 𝒱₀ ER (Rd pk) (d : Thread nD τ) none (dst := (xtwin d : Thread nD τ)) (sem := barS) (r := 0) (d := true)
    (κ := K (barCell (xtwin d))) (by rw [duties_bar]; decide) (amount_bar pk (xtwin d) true) () (O₂ d) rfl) $$ [HO Ht2 Hx]
  · isplitr; · iapply (inv_bar pk K (xtwin d)); iexact HR
    isplitl [HO]; · iexact HO
    isplitl [Ht2]; · iexact Ht2
    isplitl [Hx]
    · rw [payload_bar, show barPay (xtwin d) true = slots (F := F) (xtwin (xtwin d)) 3 (mx (xtwin d)) from rfl, xtwin_xtwin, mx_xtwin]; iexact Hx
    iapply (reached_bar pk K (xtwin d)); iexact HR
  iintro HO
  iapply (Rounds.wp_wait_rest_token 𝒱₀ ER (Rd pk) (d : Thread nD τ) none (κ := K (barCell d))
    (wpE_semWait_eq 𝒱₀ (d : Thread nD τ) none Set.univ) (Set.mem_univ _) () (O := O₂ d) (W := W) (R := 0) (m := 0) (T := ∅)
      ((Nat.zero_add _).trans (expect_bar pk d).symm)) $$ [Hc HO Hat]
  · isplitr; · iapply (inv_bar pk K d); iexact HR
    isplitl [Hc]; · iexact Hc
    isplitl [HO]; · iexact HO
    isplitr; · iapply (mayWait_bar d); iexact Hlev
    iexact Hat
  iintro ⟨HO, Hat, -, Hpay⟩
  ihave Hpay := (Entails.of_eq (rest_bar pk d)) $$ Hpay
  icases Hpay with ⟨H1, H3⟩
  iapply Hk
  isplitl [H1]; · iexact H1
  isplitl [H3]; · iexact H3
  isplitl [Hat]; · iexact Hat
  iexists _; iexact HO

/-! ## Before and after -/

-- the queries, keys and values of each device, as staged
variable (q : Dev nD → Vec F S2x8x256x64 .bf16) (km vm : Dev nD → Vec F S2x256x512 .bf16)

/-- What each device packs. -/
abbrev packs : Dev nD → Vec F S2x256x1024 .bf16 := fun d => pkOf (km d) (vm d)

/-- What the body leaves on device `d` as the result. -/
def result (d : Dev nD) : Vec F S2x8x256x64 .f32 := attOf (q d) (packs km vm d) (got (packs km vm) d)

/-- The cells the device waits on, at their start. -/
def atStart (d : Dev nD) : sProp 𝕄 :=
  iprop(atPos ER (barCell d) 0 ∅ 0 ∗ bigSep Finset.univ fun x : Fin 4 × Fin 8 => atPos ER (kCell x.1 d x.2) 0 ∅ 0)
/-- The device's duties. -/
def tokens (d : Dev nD) : sProp 𝕄 :=
  iprop((dutyTok ER (barCell (ypeer d)) 0 false ∗ dutyTok ER (barCell (xtwin d)) 0 true)
    ∗ (bigSep Finset.univ fun c => dutyTok ER (kCell 0 d c) 0 false) ∗ (bigSep Finset.univ fun c => dutyTok ER (kCell 1 (ypeer d) c) 0 false)
    ∗ (bigSep Finset.univ fun c => dutyTok ER (kCell 2 d c) 0 false) ∗ (bigSep Finset.univ fun c => dutyTok ER (kCell 3 (xtwin d) c) 0 false))
/-- What others owe the device. -/
def creds (d : Dev nD) : sProp 𝕄 :=
  iprop(cred (tallyAt (barCell d) () 2) ∗ (bigSep Finset.univ fun c => cred (tallyAt (kCell 1 d c) () N))
    ∗ bigSep Finset.univ fun c => cred (tallyAt (kCell 3 d c) () N))

def bodyPre (K : GSem nD τ sig → ℕ) (d : Dev nD) (W : Waits sig Unit) : sProp 𝕄 :=
  iprop(facts (packs km vm) K d ∗ atStart d ∗ tokens d ∗ creds d
    ∗ qPts d (q d) ∗ ((d : Thread nD τ).loc cc0_stg1_0 ↦{fullShare} km d) ∗ ((d : Thread nD τ).loc cc0_stg2_0 ↦{fullShare} vm d)
    ∗ (∃ f, oPts d Finset.univ f) ∗ (∃ f, lPts d Finset.univ fullShare f) ∗ (∃ f, rPts d Finset.univ fullShare f)
    ∗ owes (d : Thread nD τ) (O₀ d) W)

def bodyPost (d : Dev nD) : sProp 𝕄 :=
  iprop(semVal (barCell d) 0 ∗ (bigSep Finset.univ fun x : Fin 4 × Fin 8 => semVal (kCell x.1 d x.2) 0)
    ∗ qPts d (q d) ∗ ((d : Thread nD τ).loc cc0_stg1_0 ↦{fullShare} km d) ∗ ((d : Thread nD τ).loc cc0_stg2_0 ↦{fullShare} vm d)
    ∗ oPts d Finset.univ (result q km vm d) ∗ (∃ f, lPts d Finset.univ fullShare f) ∗ (∃ f, rPts d Finset.univ fullShare f)
    ∗ ∃ W, owes (d : Thread nD τ) (0 : CellTallies nD τ sig Unit) W)

/-- Every cell of the device closed. -/
theorem close_all (K : GSem nD τ sig → ℕ) (d : Dev nD) :
    iprop(records pk K ∗ atPos ER (barCell d) (0 + 1) ∅ 0 ∗ bigSep Finset.univ fun x : Fin 4 × Fin 8 => atPos ER (kCell x.1 d x.2) (0 + 1) ∅ 0) ⊢
      (|={Set.univ}=> iprop(semVal (barCell d) 0 ∗ bigSep Finset.univ fun x : Fin 4 × Fin 8 => semVal (kCell x.1 d x.2) 0) : sProp 𝕄) := by
  iintro ⟨#HR, Hb, Hk⟩
  imod (Rounds.cell_close ER (Rd pk) (g := barCell d) (Set.mem_univ (K (barCell d))) id (duties_later pk _)) $$ [Hb] with Hb
  · isplitr; · iapply (inv_bar pk K d); iexact HR
    iexact Hb
  ihave Hk := (show iprop(records pk K ∗ bigSep Finset.univ fun x : Fin 4 × Fin 8 => atPos ER (kCell x.1 d x.2) (0 + 1) ∅ 0) ⊢
      (bigSep Finset.univ fun x : Fin 4 × Fin 8 => iprop(cellInv ER (Rd pk) (K (kCell x.1 d x.2)) (kCell x.1 d x.2) ∗ atPos ER (kCell x.1 d x.2) (0 + 1) ∅ 0) : sProp 𝕄) from
    bigSep_with_persistent fun x _ => sep_mono (inv_k pk K x.1 d x.2) .rfl) $$ [Hk]
  · isplitr; · iexact HR
    iexact Hk
  imod (Rounds.cells_close ER (Rd pk) Finset.univ (fun x : Fin 4 × Fin 8 => kCell x.1 d x.2) (fun x => K (kCell x.1 d x.2))
    (fun _ _ => Set.mem_univ _) (fun _ _ => id) (fun _ => 0 + 1) (fun _ _ => duties_later pk _)) $$ Hk with Hk
  imodintro
  isplitl [Hb] <;> iassumption

end Cert.KernelIdeal.Att

end
-- ==== Proof.Whole.lean ====
/- The body from its first signal to its last wait. -/
module

public import proofs.«01_k».proof.Proof.Body

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

variable (q : Dev nD → Vec F S2x8x256x64 .bf16) (km vm : Dev nD → Vec F S2x256x512 .bf16)

theorem device_eq (d : Dev nD) (k : Dev nD → Body F) (Q : PUnit → sProp 𝕄) : Runs d (.op .deviceId k) Q = Runs d (k d) Q :=
  wp_deviceId 𝒱₀ (d : Thread nD τ) none Set.univ

theorem runs_ret (d : Dev nD) (Q : PUnit → sProp 𝕄) : (|={Set.univ}=> Q ⟨⟩ : sProp 𝕄) ⊢ Runs (F := F) d (.ret ⟨⟩) Q  := by
  unfold Runs
  rw [wp_ret]

/-- What the transfers waited for at the end pay, together. -/
theorem paid_sent (pk : Dev nD → Vec F S2x256x1024 .bf16) (d : Dev nD) :
    bigSep Finset.univ (dmaPay pk d 0) = lPts d (batchSet (mx d)) fullShare.right (pk d) := (l_chunks d (mx d) fullShare.right (pk d)).symm
theorem paid_passed (pk : Dev nD → Vec F S2x256x1024 .bf16) (d : Dev nD) :
    bigSep Finset.univ (dmaPay pk d 2) = rPts d (batchSet (mx d)) fullShare.right (got pk d) := (r_chunks d (mx d) fullShare.right (got pk d)).symm
theorem paid_received (pk : Dev nD → Vec F S2x256x1024 .bf16) (d : Dev nD) :
    bigSep Finset.univ (dmaPay pk d 3) = rPts d (batchSet (ox d)) fullShare (got pk d) := (r_chunks d (ox d) fullShare (got pk d)).symm

theorem body_run (K : GSem nD τ sig → ℕ) (d : Dev nD) (W : Waits sig Unit) (Q : PUnit → sProp 𝕄) :
    iprop(bodyPre q km vm K d W ∗ (bodyPost q km vm d -∗ Q ⟨⟩)) ⊢
      Runs d (bodyK Qm Km Vm Om Lm (Memref.isWhole_whole _) Rm (Memref.isWhole_whole _) cc0_scratch2 cc0_scratch3 cc0_scratch4 cc0_scratch5) Q := by
  unfold bodyPre atStart tokens creds bodyK runK
  rw [bigSep_four, device_eq]
  iintro ⟨⟨#HF, ⟨Hab, Ha0, Ha1, Ha2, Ha3⟩, ⟨⟨Htb0, Htb1⟩, Ht0, Ht1, Ht2, Ht3⟩, ⟨Hcb, Hc1, Hc3⟩, Hq, Hk, Hv, ⟨%fo, Ho⟩, ⟨%fl, Hl⟩, ⟨%fr, Hr⟩, HO⟩, HQ⟩
  -- the buffers by batch entry
  ihave Hl := (l_batches d fullShare fl).1 $$ Hl
  icases Hl with ⟨Hlm, Hlo⟩
  ihave Hr := (r_batches d fullShare fr).1 $$ Hr
  icases Hr with ⟨Hrm, Hro⟩
  ihave Ho := (Entails.of_eq (o_heads d fo)) $$ Ho
  icases Ho with ⟨Hom, Hoo⟩
  ihave Hom := (o_open d (mx d) fo) $$ Hom
  ihave Hoo := (o_open d (ox d) fo) $$ Hoo
  -- the signals and the wait
  iapply (handshake_rule (packs km vm) K W _) $$ [Hrm Hro Htb0 Htb1 Hab Hcb HO]
  · isplitr; · iexact HF
    isplitl [Hrm]
    · iapply (slots_intro d 1 (mx d) fr); isplitr
      · unfold facts; icases HF with ⟨-, -, #H⟩; iexact H
      iexact Hrm
    isplitl [Hro]
    · iapply (slots_intro d 3 (ox d) fr); isplitr
      · unfold facts; icases HF with ⟨-, -, #H⟩; iexact H
      iexact Hro
    isplitl [Htb0]; · iexact Htb0
    isplitl [Htb1]; · iexact Htb1
    isplitl [Hab]; · iexact Hab
    isplitl [Hcb] <;> iassumption
  iintro ⟨Hsy, Hsx, Hab, HO⟩
  unfold slots
  -- the first batch entry packed and sent
  iapply (pack_rule (km d) (vm d) (mx d) _) $$ [Hk Hv Hlm]
  · isplitl [Hk]; · iexact Hk
    isplitl [Hv]; · iexact Hv
    iexists fl; iexact Hlm
  iintro ⟨Hk, Hv, Hlm⟩
  ihave Hlm := (pointsTo_share (PosShare.mem_left_op_right fullShare)).1 $$ Hlm
  icases Hlm with ⟨HlmL, HlmR⟩
  ihave HlmR := (Entails.of_eq (l_chunks d (mx d) fullShare.right (packs km vm d))) $$ HlmR
  iapply (sends_rule (packs km vm) K _) $$ [HlmR Hsy Ht0 Ht1 HO]
  · isplitr; · iexact HF
    isplitr [HO]
    · iapply bigSep_pair; isplitl [HlmR]; · iexact HlmR
      iapply bigSep_pair; isplitl [Hsy]; · iexact Hsy
      iapply bigSep_pair; isplitl [Ht0] <;> iassumption
    iexact HO
  iintro ⟨Hc0, HO⟩
  -- the second packed
  iapply (pack_rule (km d) (vm d) (ox d) _) $$ [Hk Hv Hlo]
  · isplitl [Hk]; · iexact Hk
    isplitl [Hv]; · iexact Hv
    iexists fl; iexact Hlo
  iintro ⟨Hk, Hv, Hlo⟩
  ihave Hlo := (pointsTo_share (PosShare.mem_left_op_right fullShare)).1 $$ Hlo
  icases Hlo with ⟨HloL, HloR⟩
  ihave HlL := (l_batches d fullShare.left (packs km vm d)).2 $$ [HlmL HloL]
  · isplitl [HlmL] <;> iassumption
  -- the chunks taken in and passed on, the local work beside them
  iapply (takes_rule (packs km vm) K (q d) _) $$ [Hc1 Ha1 Hsx Ht2 Ht3 HO Hq HlL]
  · isplitr; · iexact HF
    isplitl [Hc1 Ha1 Hsx Ht2 Ht3]
    · iapply bigSep_pair; isplitl [Hc1 Ha1]
      · iapply bigSep_pair; isplitl [Hc1] <;> iassumption
      iapply bigSep_pair; isplitl [Hsx]; · iexact Hsx
      iapply bigSep_pair; isplitl [Ht2] <;> iassumption
    isplitl [HO]; · iexact HO
    isplitl [Hq] <;> iassumption
  iintro ⟨Hd, HO, Hq, HlL⟩
  ihave Hd := bigSep_unpair $$ Hd
  icases Hd with ⟨Ha1, Hd⟩
  ihave Hd := bigSep_unpair $$ Hd
  icases Hd with ⟨HrmL, Hc2⟩
  ihave HrmL := (Entails.of_eq (r_chunks d (mx d) fullShare.left (got (packs km vm) d)).symm) $$ HrmL
  -- the first batch entry of the result
  iapply (batch_rule (q d) (packs km vm d) (got (packs km vm) d) fullShare.left (mx d) _) $$ [Hom HrmL]
  · isplitl [Hom] <;> iassumption
  iintro ⟨Hom, HrmL⟩
  -- the chunks passed on to this device
  iapply (drain_rule (packs km vm) K 3 cc0_scratch5 cellAt_frecv Rm Rm _ _ (ox d) (N_eq _) _) $$ [Hc3 Ha3 HO]
  · isplitr; · iexact HF
    isplitr [HO]; · iapply bigSep_pair; isplitl [Hc3] <;> iassumption
    iexact HO
  iintro ⟨Hd, HO⟩
  ihave Hd := bigSep_unpair $$ Hd
  icases Hd with ⟨Ha3, Hro⟩
  ihave Hro := (Entails.of_eq (paid_received (packs km vm) d)) $$ Hro
  -- the second batch entry of the result
  iapply (batch_rule (q d) (packs km vm d) (got (packs km vm) d) fullShare (ox d) _) $$ [Hoo Hro]
  · isplitl [Hoo] <;> iassumption
  iintro ⟨Hoo, Hro⟩
  -- what was sent is back
  iapply (drain_rule (packs km vm) K 0 cc0_scratch2 cellAt_ysend Rm Lm _ _ (mx d) (N_eqL _) _) $$ [Hc0 Ha0 HO]
  · isplitr; · iexact HF
    isplitr [HO]; · iapply bigSep_pair; isplitl [Hc0] <;> iassumption
    iexact HO
  iintro ⟨Hd, HO⟩
  ihave Hd := bigSep_unpair $$ Hd
  icases Hd with ⟨Ha0, HlmR⟩
  ihave HlmR := (Entails.of_eq (paid_sent (packs km vm) d)) $$ HlmR
  iapply (drain_rule (packs km vm) K 2 cc0_scratch4 cellAt_fsend Rm Rm _ _ (mx d) (N_eq _) _) $$ [Hc2 Ha2 HO]
  · isplitr; · iexact HF
    isplitr [HO]; · iapply bigSep_pair; isplitl [Hc2] <;> iassumption
    iexact HO
  iintro ⟨Hd, HO⟩
  ihave Hd := bigSep_unpair $$ Hd
  icases Hd with ⟨Ha2, HrmR⟩
  ihave HrmR := (Entails.of_eq (paid_passed (packs km vm) d)) $$ HrmR
  -- the cells closed
  iapply (runs_ret d Q)
  imod (close_all (packs km vm) K d) $$ [Hab Ha0 Ha1 Ha2 Ha3] with ⟨Hb, Hs⟩
  · isplitr; · unfold facts; icases HF with ⟨#H, -, -⟩; iexact H
    isplitl [Hab]; · iexact Hab
    rw [bigSep_four]
    isplitl [Ha0]; · iexact Ha0
    isplitl [Ha1]; · iexact Ha1
    isplitl [Ha2] <;> iassumption
  imodintro
  iapply HQ
  unfold bodyPost
  isplitl [Hb]; · iexact Hb
  isplitl [Hs]; · iexact Hs
  isplitl [Hq]; · iexact Hq
  isplitl [Hk]; · iexact Hk
  isplitl [Hv]; · iexact Hv
  isplitl [Hom Hoo]
  · rw [o_heads]
    unfold result
    isplitl [Hom]; · iexact Hom
    iexact Hoo
  isplitl [HlL HlmR HloR]
  · iexists packs km vm d
    iapply (pointsTo_share (PosShare.mem_left_op_right fullShare)).2
    isplitl [HlL]; · iexact HlL
    iapply (l_batches d fullShare.right (packs km vm d)).2
    isplitl [HlmR] <;> iassumption
  isplitl [HrmL HrmR Hro]
  · iexists got (packs km vm) d
    iapply (r_batches d fullShare (got (packs km vm) d)).2
    isplitr [Hro]
    · iapply (pointsTo_share (PosShare.mem_left_op_right fullShare)).2
      isplitl [HrmL] <;> iassumption
    iexact Hro
  iexact HO

end Cert.KernelIdeal.Att

end
-- ==== Proof.Deal.lean ====
/- The protocol's resources at launch. Every cell gets its invariant: the barrier cells from their counters, the
   transfers' cells dormant, for their counters come only with the kernel. The tokens of the duties go to the
   devices that pay them, and each device gets credit for what the others owe it. -/
module

public import proofs.«01_k».proof.Proof.Body

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (launchCred launchCred_add launchCred_sum launchCred_tallyAt)

variable {F : FTy → Type} [FloatOps F]

local notation "𝕄" => MT nD τ sig Unit (Elt F) ℕ UU ℕ

/-- A device's duties: two on its barrier cell, one on each of its transfers' cells. -/
abbrev Due : Type := Bool ⊕ Fin 4 × Fin 8

def dueSem : Due → SemLoc sig
  | .inl _ => .reg barS
  | .inr x => .dma (sem x.1 x.2)
def dueBit : Due → Bool
  | .inl u => u
  | .inr _ => false

theorem due_inj {a b : Due} (hs : dueSem a = dueSem b) (hb : dueBit a = dueBit b) : a = b := by
  rcases a with u | x <;> rcases b with v | y
  · exact congrArg Sum.inl hb
  · exact absurd hs.symm (sem_ne_bar _ _)
  · exact absurd hs (sem_ne_bar _ _)
  · obtain ⟨h1, h2⟩ := sem_inj hs
    exact congrArg Sum.inr (Prod.ext h1 h2)

/-- Every duty of every device, all in round 0. -/
def dues : Finset (GSem nD τ sig × ℕ × Bool) :=
  Finset.univ.map ⟨fun x : Dev nD × Due => (((x.1 : Thread nD τ), dueSem x.2), 0, dueBit x.2), fun _ _ h =>
    Prod.ext (congrArg (fun t : GSem nD τ sig × ℕ × Bool => t.1.1.1) h)
      (due_inj (congrArg (fun t : GSem nD τ sig × ℕ × Bool => t.1.2) h) (congrArg (fun t : GSem nD τ sig × ℕ × Bool => t.2.2) h))⟩

theorem disjoint_cells : Disjoint (barCells : Finset (GSem nD τ sig)) kCells := by
  rw [Finset.disjoint_left]
  rintro g h₁ h₂
  obtain ⟨d, -, rfl⟩ := Finset.mem_map.mp h₁
  obtain ⟨x, -, h⟩ := Finset.mem_map.mp h₂
  exact sem_ne_bar x.2.1 x.2.2 (congrArg Prod.snd h)

/-! ## The tokens -/

/-- The tokens of the duties on one device's cells. -/
def duesOf (d : Dev nD) : sProp 𝕄 :=
  iprop((dutyTok ER (barCell d) 0 false ∗ dutyTok ER (barCell d) 0 true)
    ∗ (bigSep Finset.univ fun c => dutyTok ER (kCell 0 d c) 0 false) ∗ (bigSep Finset.univ fun c => dutyTok ER (kCell 1 d c) 0 false)
    ∗ (bigSep Finset.univ fun c => dutyTok ER (kCell 2 d c) 0 false) ∗ (bigSep Finset.univ fun c => dutyTok ER (kCell 3 d c) 0 false))

theorem dues_eq : bigSep dues (fun x => (dutyTok ER x.1 x.2.1 x.2.2 : sProp 𝕄)) = bigSep Finset.univ fun d : Dev nD => duesOf d := by
  unfold dues
  rw [bigSep_map, bigSep_univ_prod]
  refine bigSep_congr fun d _ => ?_
  rw [bigSep_univ_sum, bigSep_univ_eq_bigSepL [false, true] (by decide) (by decide), bigSep_four]
  rfl

def acrossY : Dev nD ≃ Dev nD := ⟨ypeer, ypeer, ypeer_ypeer, ypeer_ypeer⟩
def acrossX : Dev nD ≃ Dev nD := ⟨xtwin, xtwin, xtwin_xtwin, xtwin_xtwin⟩

theorem across_y (Φ : Dev nD → sProp 𝕄) : bigSep Finset.univ Φ = bigSep Finset.univ fun d => Φ (ypeer d) := bigSep_univ_equiv acrossY Φ
theorem across_x (Φ : Dev nD → sProp 𝕄) : bigSep Finset.univ Φ = bigSep Finset.univ fun d => Φ (xtwin d) := bigSep_univ_equiv acrossX Φ

/-- The tokens by device that pays, not by device whose cell it is. -/
theorem dues_around : (bigSep Finset.univ fun d : Dev nD => (duesOf d : sProp 𝕄)) = bigSep Finset.univ fun d : Dev nD => tokens d := by
  unfold duesOf tokens
  simp only [bigSep_sep']
  rw [across_y fun d => (dutyTok ER (barCell d) 0 false : sProp 𝕄), across_x fun d => (dutyTok ER (barCell d) 0 true : sProp 𝕄),
    across_y fun d => (bigSep Finset.univ fun c => dutyTok ER (kCell 1 d c) 0 false : sProp 𝕄),
    across_x fun d => (bigSep Finset.univ fun c => dutyTok ER (kCell 3 d c) 0 false : sProp 𝕄)]

/-! ## The credit -/

theorem owing_sum (k : Fin 4) (p : Dev nD) : owing k p all8 = ∑ c : Fin 8, tallyAt (kCell k p c) () N := by
  unfold owing
  rw [← List.sum_toFinset _ (by decide : all8.Nodup)]
  exact Finset.sum_congr (by decide) fun _ _ => rfl

theorem cred_chunks (k : Fin 4) (f : Dev nD → Dev nD) (h : ∀ d, f (f d) = d) (d : Dev nD) :
    (launchCred (fun d => owing k (f d) all8) d : sProp 𝕄) ⊢ bigSep Finset.univ fun c => cred (tallyAt (kCell k d c) () N) := by
  simp only [owing_sum]
  rw [launchCred_sum]
  exact bigSep_mono fun c _ => launchCred_tallyAt (.dma (sem k c)) f f h h () N d

theorem cred_bar (f : Dev nD → Dev nD) (h : ∀ d, f (f d) = d) (d : Dev nD) :
    (launchCred (fun d => tallyAt (barCell (f d)) () 1) d : sProp 𝕄) ⊢ cred (tallyAt (barCell d) () 1) :=
  launchCred_tallyAt (.reg barS) f f h h () 1 d

theorem creds_launch (d : Dev nD) : (launchCred O₀ d : sProp 𝕄) ⊢ creds d := by
  have e : (launchCred O₀ d : sProp 𝕄) = iprop(((launchCred (fun d => owing 1 (ypeer d) all8) d ∗ launchCred (fun d => owing 3 (xtwin d) all8) d)
      ∗ launchCred (fun d => tallyAt (barCell (xtwin d)) () 1) d) ∗ launchCred (fun d => tallyAt (barCell (ypeer d)) () 1) d) := by
    rw [← launchCred_add, ← launchCred_add, ← launchCred_add]
    rfl
  rw [e]
  unfold creds
  iintro ⟨⟨⟨H1, H3⟩, Hx⟩, Hy⟩
  ihave H1 := cred_chunks 1 ypeer ypeer_ypeer d $$ H1
  ihave H3 := cred_chunks 3 xtwin xtwin_xtwin d $$ H3
  ihave Hx := cred_bar xtwin xtwin_xtwin d $$ Hx
  ihave Hy := cred_bar ypeer ypeer_ypeer d $$ Hy
  isplitl [Hx Hy]
  · rw [← tallyAt_add (barCell d) () 1 1]
    iapply (cred_add _ _).2
    isplitl [Hx] <;> iassumption
  isplitl [H1] <;> iassumption

/-! ## Each device's part -/

-- what each device's packed buffer is to hold
variable (pk : Dev nD → Vec F S2x256x1024 .bf16)

/-- What device `d` brings to the kernel: the records, its barrier cell's position, the right to open its transfers'
    cells, its duties' tokens and its credit. -/
def brings (d : Dev nD) : sProp 𝕄 :=
  iprop((∃ K, records pk K) ∗ (atPos ER (barCell d) 0 ∅ 0 ∗ bigSep Finset.univ fun x : Fin 4 × Fin 8 => openTok ER (kCell x.1 d x.2))
    ∗ tokens d ∗ creds d)

theorem deal :
    iprop((bigSep Finset.univ fun d : Dev nD => semVal (barCell d) 0) ∗ (bigSep Finset.univ fun d : Dev nD => launchCred O₀ d)
        ∗ BI.own (ER (launchOf barCells kCells dues)))
      ⊢ (|={Set.univ}=> bigSep Finset.univ fun d : Dev nD => brings pk d : sProp 𝕄) := by
  have hv : bigSep Finset.univ (fun d : Dev nD => (semVal (barCell d) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun d : Dev nD => (atPos ER (barCell d) 0 ∅ 0 : sProp 𝕄)) :=
    Entails.of_eq (bigSep_map (s := Finset.univ) barEmb (Φ := fun g : GSem nD τ sig => (atPos ER g 0 ∅ 0 : sProp 𝕄)))
  have hopen : bigSep kCells (fun g => (openTok ER g : sProp 𝕄))
      ⊢ bigSep Finset.univ (fun d : Dev nD => (bigSep Finset.univ fun x : Fin 4 × Fin 8 => openTok ER (kCell x.1 d x.2) : sProp 𝕄)) :=
    Entails.of_eq ((bigSep_map (s := Finset.univ) kEmb (Φ := fun g : GSem nD τ sig => (openTok ER g : sProp 𝕄))).trans (bigSep_univ_prod _))
  have hpart (K : GSem nD τ sig → ℕ) (d : Dev nD) :
      iprop(records pk K ∗ ((atPos ER (barCell d) 0 ∅ 0 ∗ bigSep Finset.univ fun x : Fin 4 × Fin 8 => openTok ER (kCell x.1 d x.2))
        ∗ tokens d ∗ creds d)) ⊢ (brings pk d : sProp 𝕄) := by
    unfold brings
    iintro ⟨#HR, H⟩
    isplitr; · iexists K; iexact HR
    iexact H
  iintro ⟨Hv, Hc, Hu⟩
  imod (Rounds.fund_launch ER (Rd pk) disjoint_cells (fun g _ h => h) dues) $$ [Hv Hu] with ⟨%K, -, #Hinv, #Hr, Hat, Hopen, Htok⟩
  · isplitl [Hv]
    · iapply hv $$ Hv
    · iexact Hu
  imodintro
  iapply (bigSep_with_persistent (R := records pk K) fun d _ => hpart K d)
  isplitr
  · unfold records
    isplitr; · iexact Hinv
    iexact Hr
  iapply bigSep_pair
  isplitl [Hat Hopen]
  · iapply bigSep_pair
    isplitl [Hat]; · iapply hat $$ Hat
    iapply hopen $$ Hopen
  iapply bigSep_pair
  isplitl [Htok]
  · iapply (Entails.of_eq (dues_eq.trans dues_around)) $$ Htok
  iapply (show (bigSep Finset.univ fun d : Dev nD => (launchCred O₀ d : sProp 𝕄)) ⊢ bigSep Finset.univ fun d : Dev nD => creds d from
    bigSep_mono fun d _ => creds_launch d) $$ Hc

/-- With the counters of its transfers' cells a device opens them. -/
theorem open_all (d : Dev nD) :
    iprop(brings pk d ∗ (bigSep Finset.univ fun x : Fin 4 × Fin 8 => semVal (kCell x.1 d x.2) 0) ∗ levAts L lv)
      ⊢ (|={Set.univ}=> iprop((∃ K, facts pk K d) ∗ atStart d ∗ tokens d ∗ creds d) : sProp 𝕄) := by
  have hinv (K : GSem nD τ sig → ℕ) : iprop(records pk K ∗ (bigSep Finset.univ fun x : Fin 4 × Fin 8 => openTok ER (kCell x.1 d x.2)))
      ⊢ (bigSep Finset.univ fun x : Fin 4 × Fin 8 => iprop(cellInv ER (Rd pk) (K (kCell x.1 d x.2)) (kCell x.1 d x.2) ∗ openTok ER (kCell x.1 d x.2)) : sProp 𝕄) :=
    bigSep_with_persistent fun x _ => by
      iintro ⟨#HR, Ho⟩
      isplitr; · iapply (inv_k pk K x.1 d x.2); iexact HR
      iexact Ho
  unfold brings
  iintro ⟨⟨⟨%K, #HR⟩, ⟨Hb, Ho⟩, Ht, Hc⟩, Hs, #HL⟩
  ihave Ho := hinv K $$ [Ho]
  · isplitr; · iexact HR
    iexact Ho
  imod (Rounds.cells_open ER (Rd pk) Finset.univ (fun x : Fin 4 × Fin 8 => kCell x.1 d x.2) (fun x => K (kCell x.1 d x.2))
    (Es := Set.univ) fun _ _ => Set.mem_univ _) $$ [Ho Hs] with H
  · isplitl [Ho] <;> iassumption
  ihave H := bigSep_unpair $$ H
  icases H with ⟨Ha, #Hr⟩
  imodintro
  isplitr
  · iexists K
    unfold facts opens
    isplitr; · iexact HR
    isplitr; · iexact HL
    iexact Hr
  isplitl [Hb Ha]
  · unfold atStart
    isplitl [Hb] <;> iassumption
  isplitl [Ht] <;> iassumption

end Cert.KernelIdeal.Att

end
-- ==== Proof.Region.lean ====
/- The kernel as a region of @main: its arrays come staged, whole, it talks to the other devices, and its result
   goes back whole. -/
module

public import proofs.«01_k».proof.Proof.Whole
public import proofs.«01_k».proof.Proof.Deal
public import proofs.«01_k».proof.Proof.Gen.KernelIdeal.Frame
public import proofs.«01_k».proof.Proof.Gen.KernelIdeal.Points
public import Idealize.ShloMosaic.Lib.Pipeline.ValueKit

@[expose] public section

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-- What a device's kernel finds: the queries by head, and the keys and values with the heads side by side. -/
def qAt (d : Dev nD) : Vec F S2x8x256x64 .bf16 := V m d main_v3
def kAt (d : Dev nD) : Vec F S2x256x512 .bf16 := V m d main_v1
def vAt (d : Dev nD) : Vec F S2x256x512 .bf16 := V m d main_v2

/-- What it leaves. -/
def outAt (d : Dev nD) : Vec F S2x8x256x64 .f32 := result (qAt m) (kAt m) (vAt m) d

abbrev pkAt : Dev nD → Vec F S2x256x1024 .bf16 := packs (kAt m) (vAt m)

/-- The two buffers the kernel keeps to itself, at whatever contents, and the generator's register. -/
def spare (d : Dev nD) : sProp 𝕄 :=
  iprop(((∃ f : Vec F S2x256x1024 .bf16, lPts d Finset.univ fullShare f) ∗ (∃ f : Vec F S2x256x1024 .bf16, rPts d Finset.univ fullShare f)) ∗ ∃ r, prngReg d r)

/-- What the kernel enters with beside its arrays, and what it leaves with. -/
def entering (d : Dev nD) : sProp 𝕄 := iprop((∃ K, facts (pkAt m) K d) ∗ atStart d ∗ tokens d ∗ creds d)
def leaving (d : Dev nD) : sProp 𝕄 :=
  iprop(semVal (barCell d) 0 ∗ bigSep Finset.univ fun x : Fin 4 × Fin 8 => semVal (kCell x.1 d x.2) 0)

def dat0 (d : Dev nD) : Dat τ (Elt F) Unit ℕ UU ℕ cfg0 d where
  A w := V m d (Pipeline.arrRef spec0 w)
  after w _ := match w with
    | ⟨0, _⟩ => qAt m d
    | ⟨1, _⟩ => kAt m d
    | ⟨2, _⟩ => vAt m d
    | ⟨3, _⟩ => outAt m d
  Φ t := if t.val = 0 then iprop(entering m d ∗ spare d) else iprop(leaving d ∗ spare d)
  q _ := fullShare
  owed t := if t.val = 0 then O₀ d else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

/-- A window's block is the whole of its array. -/
theorem block_q (d : Dev nD) : iblk m d 0 t0_0 = qAt m d :=
  Memref.read_access_unit_zero (Elt F) main_v3 (off := fun a => win0_0.index t0_0 a * main_v3.ty.shape.size a)
    (funext fun a => Nat.zero_mul _) (fun a => by fin_cases a <;> decide) (V m d main_v3)
theorem block_k (d : Dev nD) : iblk m d 1 t0_0 = kAt m d :=
  Memref.read_access_unit_zero (Elt F) main_v1 (off := fun a => win0_1.index t0_0 a * main_v1.ty.shape.size a)
    (funext fun a => Nat.zero_mul _) (fun a => by fin_cases a <;> decide) (V m d main_v1)
theorem block_v (d : Dev nD) : iblk m d 2 t0_0 = vAt m d :=
  Memref.read_access_unit_zero (Elt F) main_v2 (off := fun a => win0_2.index t0_0 a * main_v2.ty.shape.size a)
    (funext fun a => Nat.zero_mul _) (fun a => by fin_cases a <;> decide) (V m d main_v2)

theorem before_q (d : Dev nD) (x) : (dat0 m d).before 0 t0_0 x = qAt m d := by
  rw [(dat0 m d).before_fetched 0 t0_0 (fetch0_0 _) x, ← block_q]; rfl
theorem before_k (d : Dev nD) (x) : (dat0 m d).before 1 t0_0 x = kAt m d := by
  rw [(dat0 m d).before_fetched 1 t0_0 (fetch0_1 _) x, ← block_k]; rfl
theorem before_v (d : Dev nD) (x) : (dat0 m d).before 2 t0_0 x = vAt m d := by
  rw [(dat0 m d).before_fetched 2 t0_0 (fetch0_2 _) x, ← block_v]; rfl

theorem arrAt_out (d : Dev nD) : (dat0 m d).arrAt 3 cfg0.N = outAt m d := by
  refine (dat0 m d).arrAt_eq_of_after_last 3 t0_0 (by decide +kernel) _ fun j => ?_
  blk_simp
  rfl

/-! ## The body -/

theorem owesAt_intro {cfg : Cfg sig Λ₀} {d : Dev nD} (dat : Dat τ (Elt F) Unit ℕ UU ℕ cfg d) (t : Fin (cfg.N + 1))
    (O : CellTallies nD τ sig Unit) (h0 : dat.owed t = O) (W : Waits sig Unit) (hr : dat.recorded t = Set.univ) :
    (owes (d : Thread nD τ) O W : sProp 𝕄) ⊢ (dat.owesAt () t : sProp 𝕄) := by
  unfold Dat.owesAt Pipeline.owesWithin Dat.bound; rw [h0, hr]
  iintro HO; iexists W; isplitr; · ipureintro; exact fun _ _ => Or.inl trivial
  iexact HO
theorem owesAt_elim {cfg : Cfg sig Λ₀} {d : Dev nD} (dat : Dat τ (Elt F) Unit ℕ UU ℕ cfg d) (t : Fin (cfg.N + 1))
    (O : CellTallies nD τ sig Unit) (h0 : dat.owed t = O) :
    (dat.owesAt () t : sProp 𝕄) ⊢ iprop(∃ W, owes (d : Thread nD τ) O W) := by
  unfold Dat.owesAt Pipeline.owesWithin; rw [h0]
  iintro ⟨%W, -, HO⟩; iexists W; iexact HO

/-- Owning a whole buffer at contents `X` is holding it at them. -/
theorem owns_whole (d : Dev nD) (b : Ref sig .tc) (X : b.ty.Contents (Elt F)) :
    (owns (Ix := Unit) (Name := ℕ) (U := UU) (Lvl := ℕ) (d : Thread nD τ) (Memref.whole b) fullShare X : sProp 𝕄) = ((d : Thread nD τ).loc b ↦{fullShare} X) := by
  unfold owns
  simp only [Memref.view_whole, View.read_whole, View.set_whole]
  refine BI.Entails.antisymm (show _ ⊢ (_ : sProp 𝕄) from ?_) (show _ ⊢ (_ : sProp 𝕄) from ?_)
  · iintro ⟨%f, %h, H⟩
    subst h
    iexact H
  · iintro H
    iexists X
    isplitr
    · ipureintro; rfl
    iexact H

theorem phi_first (d : Dev nD) : (dat0 m d).Φ t0_0.castSucc = iprop(entering m d ∗ spare d) := rfl
theorem phi_last (d : Dev nD) : (dat0 m d).Φ t0_0.succ = iprop(leaving d ∗ spare d) := rfl
theorem owed_first (d : Dev nD) : (dat0 m d).owed t0_0.castSucc = O₀ d := rfl
theorem owed_last (d : Dev nD) : (dat0 m d).owed t0_0.succ = 0 := rfl

theorem body (d : Dev nD) : BodyObligation (dat0 m d) defs₀ 𝒱₀ () Set.univ := fun t => by
  obtain rfl := fin_N0 t
  have hrun (K : GSem nD τ sig → ℕ) (W : Waits sig Unit) (Q : PUnit → sProp 𝕄) :
      iprop(bodyPre (qAt m) (kAt m) (vAt m) K d W ∗ (bodyPost (qAt m) (kAt m) (vAt m) d -∗ Q ⟨⟩))
        ⊢ wp frame (wpE defs₀ 𝒱₀ (d : Thread nD τ) none) Set.univ (bodyAt0 t0_0) Q := by
    have h := body_run (qAt m) (kAt m) (vAt m) K d W Q
    rw [← body_eq] at h
    exact h
  rw [bigSep_W0, bigSep_W0]
  simp only [owns_whole]
  rw [phi_first, phi_last]
  unfold entering leaving spare
  iintro ⟨⟨⟨⟨%K, HF⟩, Ha, Ht, Hc⟩, ⟨Hl, Hr⟩, Hp⟩, HO, ⟨%x0, Hq⟩, ⟨%x1, Hk⟩, ⟨%x2, Hv⟩, ⟨%x3, Ho⟩⟩
  rw [before_q, before_k, before_v]
  ihave HO' := (owesAt_elim (dat0 m d) _ (O₀ d) (owed_first m d)) $$ HO
  icases HO' with ⟨%W, HO⟩
  iapply (hrun K W _)
  isplitl [HF Ha Ht Hc Hq Hk Hv Ho Hl Hr HO]
  · unfold bodyPre
    isplitl [HF]; · iexact HF
    isplitl [Ha]; · iexact Ha
    isplitl [Ht]; · iexact Ht
    isplitl [Hc]; · iexact Hc
    isplitl [Hq]; · iexact Hq
    isplitl [Hk]; · iexact Hk
    isplitl [Hv]; · iexact Hv
    isplitl [Ho]; · iexists _; iexact Ho
    isplitl [Hl]; · iexact Hl
    isplitl [Hr]; · iexact Hr
    iexact HO
  unfold bodyPost
  iintro ⟨Hb, Hs, Hq, Hk, Hv, Ho, Hl, Hr, ⟨%W', HO⟩⟩
  isplitl [Hb Hs Hl Hr Hp]
  · isplitl [Hb Hs]
    · isplitl [Hb] <;> iassumption
    isplitl [Hl Hr]
    · isplitl [Hl] <;> iassumption
    iexact Hp
  isplitl [HO]; · iapply (owesAt_intro (dat0 m d) t0_0.succ 0 (owed_last m d) W' rfl); iexact HO
  isplitl [Hq]; · iexact Hq
  isplitl [Hk]; · iexact Hk
  isplitl [Hv]; · iexact Hv
  iexact Ho

end Cert.KernelIdeal.Att

end
-- ==== Proof.Run.lean ====
/- The run of @main on all devices: the host's rearrangement of the arguments, the kernel, and the rearrangement of
   its result. -/
module

public import proofs.«01_k».proof.Proof.Region
public import Idealize.ShloMosaic.Lib.Pipeline.RegionTalk

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The values along @main -/

abbrev Vₛ (d : Dev nD) : Valuation τ sig (Elt F) := fun b => m (d, b)
/-- After the kernel: its result in place. -/
def Vₖ (d : Dev nD) : Valuation τ sig (Elt F) := Function.update (V0 m d) (Proc.devRef .tc main_v4) (outAt m d)
/-- At the end. -/
abbrev Vₑ (d : Dev nD) : Valuation τ sig (Elt F) := StableHlo.after hostOps1 (Vₖ m d)

theorem Vₖ_out (d : Dev nD) : Vₖ m d main_v4 = outAt m d := Function.update_self ..
theorem Vₖ_of_ne (d : Dev nD) (b : Ref sig .tc) (h : b ≠ main_v4) : Vₖ m d b = V m d b :=
  Function.update_of_ne (StableHlo.devRef_ne_of_ne h) ..

/-- The buffers @main touches that the kernel does not. -/
abbrev arrs : Finset (DevRef τ sig) := Pipeline.arrRefs (τ := τ) spec0
abbrev others : Finset (DevRef τ sig) := Pipeline.ucRefs τ sig \ arrs

theorem arrs_sub : arrs ⊆ Pipeline.ucRefs τ sig := Pipeline.arrRefs_sub_ucRefs spec0 winFacts0.arr_unscoped

/-! ## The kernel's region -/

/-- The kernel's own counters: its transfers' cells. -/
def ownSem (x : Fin 4 × Fin 8) : SemLoc sig := .dma (sem x.1 x.2)

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {d : Dev nD} {g : GSem nD τ sig} {u : Unit} (h : 0 < O₀ d g u) : () ∈ L g ∧ (0 : ℕ) < lv g () := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · rcases O₂_pos h with ⟨c, rfl⟩ | ⟨c, rfl⟩
      · exact ⟨mem_L_tc _ _, by rw [lv_k]; decide⟩
      · exact ⟨mem_L_tc _ _, by rw [lv_k]; decide⟩
    · obtain ⟨rfl, -⟩ := Pipeline.tallyAt_pos h
      exact ⟨mem_L_tc _ _, by rw [lv_bar]; decide⟩
  · obtain ⟨rfl, -⟩ := Pipeline.tallyAt_pos h
    exact ⟨mem_L_tc _ _, by rw [lv_bar]; decide⟩

theorem owed_cut (d : Dev nD) (t : Fin ((Pipeline.pin (pcfgs (F := F)) adm 0).N + 1)) (g : GSem nD τ sig) (u : Unit)
    (h : 0 < (pdats m 0 d).owed t g u) : u ∈ L g ∧ (0 : ℕ) < lv g u := by
  have e : (pdats m 0 d).owed t = if t.val = 0 then O₀ d else 0 := rfl
  rw [e] at h
  split at h
  · exact O₀_pos h
  · exact absurd h (Nat.lt_irrefl 0)

/-- A staging cell is below all that is owed. -/
theorem lv_stage : ∀ (w : Fin 4) (s : Fin (cfg0.win w).nbuf) (d : Dev nD), lv ((d : Thread nD τ), .dma ((cfg0.win w).sem s)) () ≤ 0 := by
  have h : ∀ (w : Fin 4) (s : Fin (cfg0.win w).nbuf), kind (.dma ((cfg0.win w).sem s)) = none := by decide +kernel
  intro w s d
  unfold lv
  dsimp only
  rw [h w s]
  exact le_of_eq (if_neg fun e => by cases e)

theorem held_empty (d : Dev nD) (W : Valuation τ sig (Elt F)) : (StableHlo.held (d.tc : Thread nD τ) ∅ W : sProp 𝕄) = BI.emp := by
  unfold StableHlo.held
  exact BI.bigSep_empty

theorem enter (d : Dev nD) : iprop(brings (pkAt m) d ∗ Pipeline.ownSems0 ownSem d ∗ levAts L lv) ⊢ (|={Set.univ}=> entering m d : sProp 𝕄) :=
  open_all (pkAt m) d

theorem into (d : Dev nD) : iprop(Pipeline.scopedRest (Pipeline.pin (pcfgs (F := F)) adm 0).spec d ∗ (∃ r, prngReg d r)
      ∗ StableHlo.held (d.tc : Thread nD τ) ∅ (V0 m d) ∗ entering m d)
    ⊢ (pdats m 0 d).Φ 0 := by
  rw [show (pdats m 0 d).Φ 0 = iprop(entering m d ∗ spare d) from rfl, show (Pipeline.pin (pcfgs (F := F)) adm 0).spec = spec0 from rfl, scopedRest0_eq]
  unfold spare
  iintro ⟨Hs, Hp, -, He⟩
  isplitl [He]; · iexact He
  isplitl [Hs]; · iexact Hs
  iexact Hp

theorem out (d : Dev nD) : (pdats m 0 d).Φ (Fin.last (Pipeline.pin (pcfgs (F := F)) adm 0).N)
    ⊢ iprop(Pipeline.scopedRest (Pipeline.pin (pcfgs (F := F)) adm 0).spec d ∗ (∃ r, prngReg d r)
      ∗ StableHlo.held (d.tc : Thread nD τ) ∅ (Vₖ m d) ∗ Pipeline.ownSems0 ownSem d ∗ semVal (barCell d) 0) := by
  rw [show (pdats m 0 d).Φ (Fin.last _) = iprop(leaving d ∗ spare d) from rfl,
    show (Pipeline.pin (pcfgs (F := F)) adm 0).spec = spec0 from rfl, scopedRest0_eq, held_empty,
    show (Pipeline.ownSems0 ownSem d : sProp 𝕄) = bigSep Finset.univ fun x : Fin 4 × Fin 8 => semVal (kCell x.1 d x.2) 0 from rfl]
  unfold spare leaving
  iintro ⟨⟨Hb, Hx⟩, Hs, Hp⟩
  isplitl [Hs]; · iexact Hs
  isplitl [Hp]; · iexact Hp
  isplitr; · iempintro
  isplitl [Hx]; · iexact Hx
  iexact Hb

/-- The arrays as the region leaves them. -/
theorem arr_after (d : Dev nD) : ∀ w : Fin 4, (dat0 m d).arrAt w cfg0.N = Vₖ m d (Proc.devRef .tc (Pipeline.arrRef spec0 w))
  | 0 => ((dat0 m d).arrAt_in 0 rfl _).trans (Vₖ_of_ne m d main_v3 (by decide)).symm
  | 1 => ((dat0 m d).arrAt_in 1 rfl _).trans (Vₖ_of_ne m d main_v1 (by decide)).symm
  | 2 => ((dat0 m d).arrAt_in 2 rfl _).trans (Vₖ_of_ne m d main_v2 (by decide)).symm
  | 3 => (arrAt_out m d).trans (Vₖ_out m d).symm

theorem other_ne {b : DevRef τ sig} (h : b ∈ others) : b ≠ Proc.devRef .tc main_v4 := by
  rintro rfl
  exact (Finset.mem_sdiff.mp h).2 (Finset.mem_map_of_mem _ (Finset.mem_image_of_mem (Pipeline.arrRef spec0) (Finset.mem_univ (3 : Fin 4))))

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 ownSem (by decide +kernel : Pipeline.OwnSemFacts spec0 ownSem)
    ∅ others (Finset.empty_subset _) kit0 rfl (fun d => (body m d).loose)
    (fun _ => 0) O₀ (fun d => (zero_add (O₀ d)).symm) (fun _ => rfl) (fun _ => rfl) (fun d => (dat0 m d).share_full fun _ => rfl)
    (V0 m) (Vₖ m) (fun d b hb => Function.update_of_ne (other_ne (Finset.mem_sdiff.mp hb).1) ..)
    (brings (pkAt m)) (fun d => semVal (barCell d) 0) (entering m) (fun d => semVal (barCell d) 0) (enter m) (into m) (out m)
    (fun d => by iintro H; imodintro; iexact H)
    (fun _ => 0)
    ⟨fun _ _ _ => mem_L_tc _ _, fun d w s => lv_stage w s d, fun d t g u h => owed_cut m d t g u h⟩
    (fun _ => iprop(emp))
    (fun _ _ => rfl) (fun d w => arr_after m d w)

/-! ## @main -/

/-- What rides beside the buffers up to the kernel, and after it. -/
def before (d : Dev nD) : sProp 𝕄 := iprop(brings (pkAt m) d ∗ (∃ r, prngReg d r) ∗ ∃ W, owes (d : Thread nD τ) (O₀ d) W)
def afterwards (d : Dev nD) : sProp 𝕄 := iprop(semVal (barCell d) 0 ∗ ∃ W, owes (d : Thread nD τ) (0 : CellTallies nD τ sig Unit) W)

local notation "ℍ" => Pipeline.HostSeg (Name := ℕ) (U := UU) (pcfgs (F := F)) defs₀ 𝒱₀ L lv

def prefixSeg : ℍ := Pipeline.HostSeg.ofOps _ _ _ _ _ (Pipeline.ucRefs τ sig) hostOps0
  (fun op h => Pipeline.sub_ucRefs op (List.forall_iff_forall_mem.mp hostOps0_sub op h))
  (fun op h => List.forall_iff_forall_mem.mp hostOps0_fresh op h) (Vₛ m) (before m)
def suffixSeg : ℍ := Pipeline.HostSeg.ofOps _ _ _ _ _ (Pipeline.ucRefs τ sig) hostOps1
  (fun op h => Pipeline.sub_ucRefs op (List.forall_iff_forall_mem.mp hostOps1_sub op h))
  (fun op h => List.forall_iff_forall_mem.mp hostOps1_fresh op h) (Vₖ m) afterwards

def segs : List (Pipeline.Seg (pcfgs (F := F)) adm (pdats m) () defs₀ 𝒱₀ L lv) :=
  [.host (prefixSeg m), .region (region m), .host (suffixSeg m)]

theorem region_pre (d : Dev nD) : iprop(StableHlo.held (d : Thread nD τ) (Pipeline.ucRefs τ sig) (V0 m d) ∗ before m d) ⊢ (region m).pre d := by
  show _ ⊢ iprop(StableHlo.held (d.tc : Thread nD τ) arrs (V0 m d) ∗ (∃ r, prngReg d r)
    ∗ (StableHlo.held (d.tc : Thread nD τ) others (V0 m d) ∗ emp) ∗ brings (pkAt m) d ∗ ∃ Wd, owes (d : Thread nD τ) (0 + O₀ d) Wd)
  rw [StableHlo.held_sub_split _ arrs_sub, zero_add]
  unfold before
  iintro ⟨⟨Ha, Ho⟩, Hb, Hp, HO⟩
  isplitl [Ha]; · iexact Ha
  isplitl [Hp]; · iexact Hp
  isplitl [Ho]
  · isplitl [Ho]; · iexact Ho
    iempintro
  isplitl [Hb]; · iexact Hb
  iexact HO

theorem region_post (d : Dev nD) : (region m).post d ⊢ iprop(StableHlo.held (d : Thread nD τ) (Pipeline.ucRefs τ sig) (Vₖ m d) ∗ afterwards d) := by
  show iprop(StableHlo.held (d.tc : Thread nD τ) arrs (Vₖ m d) ∗ (∃ r, prngReg d r)
    ∗ (StableHlo.held (d.tc : Thread nD τ) others (Vₖ m d) ∗ emp) ∗ semVal (barCell d) 0 ∗ ∃ Wd, owes (d : Thread nD τ) (0 : CellTallies nD τ sig Unit) Wd) ⊢ _
  rw [StableHlo.held_sub_split _ arrs_sub]
  unfold afterwards
  iintro ⟨Ha, -, ⟨Ho, -⟩, Hb, HO⟩
  isplitl [Ha Ho]; · isplitl [Ha] <;> iassumption
  isplitl [Hb] <;> iassumption

/-! ## The launch -/

/-- The launch element: the pipeline's own, and the protocol's. -/
def u₀ : UU :=
  (initOf (Pipeline.cells (Pipeline.pin (pcfgs (F := F)) adm) cellOf_inj) (Pipeline.launchToks (Pipeline.pin (pcfgs (F := F)) adm) cellOf_inj),
    launchOf barCells kCells dues)

/-- The protocol's launch element, whole, with the first device. -/
def parked (d : Dev nD) : sProp 𝕄 := if d = 0 then BI.own (ER (launchOf barCells kCells dues)) else iprop(emp)
theorem bigSep_parked : bigSep Finset.univ (parked (F := F)) = BI.own (ER (launchOf barCells kCells dues)) := by
  rw [bigSep_univ_at _ 0, bigSep_congr (s := Finset.univ.erase 0) (Ψ := fun _ => (BI.emp : sProp 𝕄))
      fun d hd => by unfold parked; rw [if_neg (Finset.ne_of_mem_erase hd)]; rfl, BI.bigSep_emp_const]
  unfold parked; rw [if_pos rfl]
  exact BI.equiv_iff.mp sep_emp

theorem unscoped_bar (d : Dev nD) : (unscopedSems0 d : sProp 𝕄) = semVal (barCell d) 0 := by
  unfold unscopedSems0
  rw [show (Finset.univ.filter fun sm : SemLoc sig => ¬ sm.isScoped .tc) = {SemLoc.reg barS} from by decide +kernel, BI.bigSep_singleton]
theorem unscoped_eq : ∀ sm : SemLoc sig, sm.isScoped .tc = false → sm = .reg barS := by decide +kernel

abbrev T₀ (d : Dev nD) : sProp 𝕄 := iprop(StableHlo.held (d : Thread nD τ) (Pipeline.ucRefs τ sig) (Vₛ m d) ∗ before m d)
abbrev Tₑ (d : Dev nD) : sProp 𝕄 := iprop(StableHlo.held (d : Thread nD τ) (Pipeline.ucRefs τ sig) (Vₑ m d) ∗ semVal (barCell d) 0)

theorem launch :
    iprop((bigSep Finset.univ fun d : Dev nD => iprop(unscopedBufs d (fun b => m ((d : Thread nD τ).loc b)) ∗ unscopedSems0 d
          ∗ owes (d : Thread nD τ) (O₀ d) ∅ ∗ Pipeline.launchCred O₀ d ∗ prngReg d (ρ d) ∗ parked d)) ∗ levAts L lv)
      ⊢ (|={Set.univ}=> bigSep Finset.univ (T₀ m) : sProp 𝕄) := by
  have hT (d : Dev nD) : iprop(brings (pkAt m) d ∗ (unscopedBufs d (fun b => m ((d : Thread nD τ).loc b))
      ∗ (owes (d : Thread nD τ) (O₀ d) ∅ ∗ prngReg d (ρ d)))) ⊢ (T₀ m d : sProp 𝕄) := by
    rw [show (unscopedBufs d (fun b => m ((d : Thread nD τ).loc b)) : sProp 𝕄) = StableHlo.held (d : Thread nD τ) (Pipeline.ucRefs τ sig) (Vₛ m d)
      from Pipeline.unscopedBufs_held d (Vₛ m d)]
    unfold T₀ before
    iintro ⟨Hb, Hh, HO, Hp⟩
    isplitl [Hh]; · iexact Hh
    isplitl [Hb]; · iexact Hb
    isplitl [Hp]; · iexists _; iexact Hp
    iexists _; iexact HO
  iintro ⟨H, -⟩
  ihave H := bigSep_unpair $$ H; icases H with ⟨Hh, H⟩
  ihave H := bigSep_unpair $$ H; icases H with ⟨Hs, H⟩
  ihave H := bigSep_unpair $$ H; icases H with ⟨HO, H⟩
  ihave H := bigSep_unpair $$ H; icases H with ⟨Hc, H⟩
  ihave H := bigSep_unpair $$ H; icases H with ⟨Hp, Hu⟩
  imod (deal (pkAt m)) $$ [Hs Hc Hu] with Hb
  · isplitl [Hs]
    · iapply (Entails.of_eq (bigSep_congr fun d _ => unscoped_bar d)) $$ Hs
    isplitl [Hc]; · iexact Hc
    iapply (Entails.of_eq bigSep_parked) $$ Hu
  imodintro
  iapply (show (bigSep Finset.univ fun d : Dev nD => iprop(brings (pkAt m) d ∗ (unscopedBufs d (fun b => m ((d : Thread nD τ).loc b))
      ∗ (owes (d : Thread nD τ) (O₀ d) ∅ ∗ prngReg d (ρ d))))) ⊢ (bigSep Finset.univ (T₀ m) : sProp 𝕄) from bigSep_mono fun d _ => hT d)
  iapply bigSep_pair
  isplitl [Hb]; · iexact Hb
  iapply bigSep_pair
  isplitl [Hh]; · iexact Hh
  iapply bigSep_pair
  isplitl [HO] <;> iassumption

/-! ## The run -/

theorem mem_uc (b : Ref sig .tc) (h : b.isScoped = false) : (Proc.devRef .tc b : DevRef τ sig) ∈ Pipeline.ucRefs τ sig := Pipeline.devRef_mem_ucRefs h

/-- @main's arguments and its result, out of the held buffers. -/
theorem held_ends (d : Dev nD) (W : Valuation τ sig (Elt F)) :
    (StableHlo.held (d : Thread nD τ) (Pipeline.ucRefs τ sig) W : sProp 𝕄) ⊢
      iprop(((d : Thread nD τ).loc main_arg0 ↦{fullShare} W main_arg0) ∗ ((d : Thread nD τ).loc main_arg1 ↦{fullShare} W main_arg1)
        ∗ ((d : Thread nD τ).loc main_arg2 ↦{fullShare} W main_arg2) ∗ ((d : Thread nD τ).loc main_v5 ↦{fullShare} W main_v5)) := by
  unfold StableHlo.held
  refine BIBase.Entails.trans (bigSep_subset (t := {Proc.devRef .tc main_arg0, Proc.devRef .tc main_arg1, Proc.devRef .tc main_arg2, Proc.devRef .tc main_v5}) ?_) ?_
  · intro b hb
    simp only [Finset.mem_insert, Finset.mem_singleton] at hb
    rcases hb with rfl | rfl | rfl | rfl <;> exact mem_uc _ rfl
  rw [bigSep_insert (by decide), bigSep_insert (by decide), bigSep_insert (by decide), bigSep_singleton]
  exact .rfl

/-- What a device's memory ends with. -/
def Ends (d : Dev nD) (s : MemSt nD τ sig (Elt F)) : Prop :=
  (s.mem ((d : Thread nD τ).loc main_arg0) = Vₑ m d main_arg0 ∧ s.mem ((d : Thread nD τ).loc main_arg1) = Vₑ m d main_arg1
    ∧ s.mem ((d : Thread nD τ).loc main_arg2) = Vₑ m d main_arg2 ∧ s.mem ((d : Thread nD τ).loc main_v5) = Vₑ m d main_v5)
  ∧ s.sem (barCell d) = 0

theorem final (d : Dev nD) (s : Phys nD τ sig (Elt F)) :
    iprop(Tₑ m d ∗ SI s) ⊢ (|={Set.univ}=> iprop(⌜Ends m d s.mem⌝ ∗ SI s) : sProp 𝕄) := by
  unfold Tₑ
  iintro ⟨⟨H, Hb⟩, HSI⟩
  ihave H := held_ends d (Vₑ m d) $$ H
  icases H with ⟨H0, H1, H2, H5⟩
  icombine HSI H0 gives %h0
  icombine HSI H1 gives %h1
  icombine HSI H2 gives %h2
  icombine HSI H5 gives %h5
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h5⟩, by simpa using hb⟩
  iexact HSI

/-- The host's rearrangement of the result leaves the arguments alone. -/
theorem suffix_keeps (W : Valuation τ sig (Elt F)) (b : Ref sig .tc) (h : b ≠ main_v5) : StableHlo.after hostOps1 W b = W b := by
  refine StableHlo.after_of_forall_not_mem (b := Proc.devRef .tc b) _ _ (List.forall_iff_forall_mem.mp ?_)
  simp only [hostOps1, List.Forall, StableHlo.unary_writes, Finset.mem_singleton]
  exact StableHlo.devRef_ne_of_ne h

/-- What @main returns: the kernel's result, heads and positions exchanged. -/
def returned (d : Dev nD) : Vec F S2x256x8x64 .f32 := transpose S2x256x8x64 [0, 2, 1, 3] (outAt m d) transposes_S2x8x256x64_S2x256x8x64_0_2_1_3

theorem Vₑ_out (d : Dev nD) : Vₑ m d main_v5 = returned m d := by
  show StableHlo.after hostOps1 (Vₖ m d) (Proc.devRef .tc main_v5) = _
  rw [StableHlo.after_cons, StableHlo.after_nil, StableHlo.unary_result, Vₖ_out]
  rfl

theorem Vₑ_arg0 (d : Dev nD) : Vₑ m d main_arg0 = m ((d : Thread nD τ).loc main_arg0) :=
  (suffix_keeps _ _ (by decide)).trans ((Vₖ_of_ne m d main_arg0 (by decide)).trans (V_main_arg0 m d))
theorem Vₑ_arg1 (d : Dev nD) : Vₑ m d main_arg1 = m ((d : Thread nD τ).loc main_arg1) :=
  (suffix_keeps _ _ (by decide)).trans ((Vₖ_of_ne m d main_arg1 (by decide)).trans (V_main_arg1 m d))
theorem Vₑ_arg2 (d : Dev nD) : Vₑ m d main_arg2 = m ((d : Thread nD τ).loc main_arg2) :=
  (suffix_keeps _ _ (by decide)).trans ((Vₖ_of_ne m d main_arg2 (by decide)).trans (V_main_arg2 m d))

set_option backward.isDefEq.respectTransparency.types false in
/-- From any memory with every counter at zero, each fair execution on the devices ends; at the end every device has
    its arguments as they were and `returned` in the result buffer, and every counter of the machine is at zero. -/
theorem run_main : θ_run defs (onTc (τ := τ) (main (F := F))) ⟨m, fun _ => 0, ρ⟩
    (fun r => (∀ d : Dev nD, (r.2.mem ((d : Thread nD τ).loc main_arg0) = m ((d : Thread nD τ).loc main_arg0)
          ∧ r.2.mem ((d : Thread nD τ).loc main_arg1) = m ((d : Thread nD τ).loc main_arg1)
          ∧ r.2.mem ((d : Thread nD τ).loc main_arg2) = m ((d : Thread nD τ).loc main_arg2))
        ∧ r.2.mem ((d : Thread nD τ).loc main_v5) = returned m d) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (prefixSeg m) (suffixSeg m) (region m) rfl rfl c]; exact .rfl)
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [bigSep_parked]; iexact HX)
    (T₀ := T₀ m) (Tₙ := Tₑ m)
    (hch := by
      refine ⟨fun _ => .rfl, region_pre m, region_post m, fun c => ?_⟩
      show iprop(StableHlo.held (c : Thread nD τ) (Pipeline.ucRefs τ sig) (Vₑ m c) ∗ afterwards c)
        ⊢ iprop(Tₑ m c ∗ ∃ W, owes (c : Thread nD τ) (0 : CellTallies nD τ sig Unit) W)
      unfold afterwards
      iintro ⟨Hh, Hb, HO⟩
      isplitr [HO]
      · isplitl [Hh] <;> iassumption
      · iexact HO)
    (hinit := launch m ρ)
    (QY := Ends m)
    (hfin := final m)
    (hQ := fun s h hs => ⟨fun d => by
        obtain ⟨⟨h0, h1, h2, h5⟩, -⟩ := h d
        exact ⟨⟨h0.trans (Vₑ_arg0 m d), h1.trans (Vₑ_arg1 m d), h2.trans (Vₑ_arg2 m d)⟩, h5.trans (Vₑ_out m d)⟩,
      sem_eq_zero hs fun d sm hsm => by
        obtain rfl := unscoped_eq sm hsm
        exact (h d).2⟩)

end Cert.KernelIdeal.Att

end
-- ==== Proof.Frames.lean ====
/-
  The three frames: each program runs to its end without a fault, leaves its arguments as they were, and leaves every
  counter at zero.

  The kernel's run (`Att.run_main`) is proved for any float values. The printed program and its idealization have the
  same text, so the run gives both of their frames, at the machine's floats and at the exact ones. The reference runs
  on its host alone and has no counters.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The printed program and its idealization have one body table. -/
theorem tables₀ : Cert.Kernel.defs₀ (F := Bits) = Cert.KernelIdeal.defs₀ (F := Bits) := by
  unfold Cert.Kernel.defs₀ Cert.KernelIdeal.defs₀
  congr 1
  funext l x
  match l, x with
  | 0, (_, _) =>
    show Cert.Kernel.cc0_body (F := Bits) _ _ _ _ _ _ _ _ _ _ _ _ _ _ _ _
      = Cert.KernelIdeal.cc0_body (F := Bits) _ _ _ _ _ _ _ _ _ _ _ _ _ _ _ _
    rfl

/-- And one table with the calls' regions and pipelines. -/
theorem tables : Cert.Kernel.defs (F := Bits) = Cert.KernelIdeal.defs (F := Bits) := by
  unfold Cert.Kernel.defs Cert.KernelIdeal.defs
  exact congrArg (Pipeline.defs Cert.KernelIdeal.pcfgs) tables₀

/-- The kernel at the machine's floats. -/
theorem frame_kernel : Cert.quiescent_Kernel := by
  intro m ρ _
  rw [tables]
  exact (θ_run Cert.KernelIdeal.defs _ _).mono (fun _ h => ⟨fun c => (h.1 c).1, h.2⟩)
    (Cert.KernelIdeal.Att.run_main (F := Bits) m ρ)

/-- The kernel at the exact floats. -/
theorem frame_ideal : Cert.quiescent_KernelIdeal := fun m ρ _ =>
  (θ_run Cert.KernelIdeal.defs _ _).mono (fun _ h => ⟨fun c => (h.1 c).1, h.2⟩)
    (Cert.KernelIdeal.Att.run_main (F := Ideal) m ρ)

/-- The reference at the exact floats. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Value.lean ====
/-
  What the kernel returns on a device, read at an index, at the exact floats.

  An element of the result is the sum over the device's own 256 keys and the sum over the 256 keys it received, of the
  exponentials of the scores times the values, over the same two sums of the exponentials alone. The received keys are
  those of the device across `y`, or of the one across `y` from its twin along `x`, by the batch entry.
-/
module

public import proofs.«01_k».proof.Proof.Run
public import Idealize.ShloMosaic.Lib.Pointwise

@[expose] public section

set_option maxRecDepth 16384

noncomputable section

namespace Cert.KernelIdeal.Att

open Cert.KernelIdeal Cert.KernelIdeal.Gen
open Idealize.ShloMosaic Idealize.ShloMosaic.TcCoe Idealize.SL.Sem

/-! ## Where a head's elements lie -/

section
variable {F : FTy → Type} [FloatOps F]

/-- The column of a head's element among the 512 columns of the keys or of the values. -/
abbrev col (h : Fin 8) (t : Fin 64) : Fin 512 := ⟨64 * h.val + t.val, by omega⟩
/-- The same in a packed buffer: half 0 the keys, half 1 the values. -/
abbrev pcol (j : Fin 2) (h : Fin 8) (t : Fin 64) : Fin 1024 := ⟨512 * j.val + (64 * h.val + t.val), by omega⟩

theorem pairAt_apply (v : Vec F S2x256x1024 .bf16) (b j : Fin 2) (hh : Fin 4) (i : Fin 2) (k : Fin 256) (t : Fin 64)
    (hc : 64 * i.val + t.val < 128) :
    pairOf (pairAt v b j hh) (ix2 k ⟨64 * i.val + t.val, hc⟩) = v (ix3 b k (pcol j (headOf hh i) t)) := by
  pointwise [pairOf]
  refine congrArg v ?_
  funext a
  apply Fin.ext
  match a with
  | 0 => show b.val + 1 * 0 = b.val; omega
  | 1 => show 0 + 1 * k.val = k.val; omega
  | 2 => show 512 * j.val + 128 * hh.val + 1 * (64 * i.val + t.val) = 512 * j.val + (64 * (2 * hh.val + i.val) + t.val); omega

theorem queryAt_apply (q : Vec F S2x8x256x64 .bf16) (b : Fin 2) (h : Fin 8) (ρ : Fin 256) (t : Fin 64) :
    queryAt q b h (ix4 0 0 ρ t) = q (ix4 b h ρ t) := by
  refine congrArg q ?_
  funext a
  apply Fin.ext
  match a with
  | 0 => show b.val + 1 * 0 = b.val; omega
  | 1 => show h.val + 1 * 0 = h.val; omega
  | 2 => show 0 + 1 * ρ.val = ρ.val; omega
  | 3 => show 0 + 1 * t.val = t.val; omega

theorem pkOf_keys (km vm : Vec F S2x256x512 .bf16) (b : Fin 2) (k : Fin 256) (h : Fin 8) (t : Fin 64) :
    pkOf km vm (ix3 b k (pcol 0 h t)) = km (ix3 b k (col h t)) := by
  refine (if_pos (show 512 * 0 + (64 * h.val + t.val) < 512 by omega)).trans (congrArg km ?_)
  funext a
  apply Fin.ext
  match a with
  | 0 => rfl
  | 1 => rfl
  | 2 => show (512 * 0 + (64 * h.val + t.val)) % 512 = 64 * h.val + t.val; omega

theorem pkOf_values (km vm : Vec F S2x256x512 .bf16) (b : Fin 2) (k : Fin 256) (h : Fin 8) (t : Fin 64) :
    pkOf km vm (ix3 b k (pcol 1 h t)) = vm (ix3 b k (col h t)) := by
  refine (if_neg (show ¬ 512 * 1 + (64 * h.val + t.val) < 512 by omega)).trans (congrArg vm ?_)
  funext a
  apply Fin.ext
  match a with
  | 0 => rfl
  | 1 => rfl
  | 2 => show (512 * 1 + (64 * h.val + t.val)) % 512 = 64 * h.val + t.val; omega

/-! ## The arguments, as the call finds them -/

variable (m : (ℓ : Loc nD τ sig) → Buf (Elt F) ℓ)

/-- The three arguments of a device. -/
abbrev argQ (d : Dev nD) : Vec F S2x256x8x64 .bf16 := m ((d : Thread nD τ).loc main_arg0)
abbrev argK (d : Dev nD) : Vec F S2x256x8x64 .bf16 := m ((d : Thread nD τ).loc main_arg1)
abbrev argV (d : Dev nD) : Vec F S2x256x8x64 .bf16 := m ((d : Thread nD τ).loc main_arg2)

theorem qAt_eq (d : Dev nD) : qAt m d = transpose S2x8x256x64 [0, 2, 1, 3] (argQ m d) transposes_S2x256x8x64_S2x8x256x64_0_2_1_3 := by
  show StableHlo.after hostOps0 (fun b => m (d, b)) (Proc.devRef .tc main_v3) = _
  after_results

theorem kAt_eq (d : Dev nD) : kAt m d = shapeCast S2x256x512 (argK m d) shapeCasts_S2x256x8x64_S2x256x512 := by
  show StableHlo.after hostOps0 (fun b => m (d, b)) (Proc.devRef .tc main_v1) = _
  after_results
  rfl

theorem vAt_eq (d : Dev nD) : vAt m d = shapeCast S2x256x512 (argV m d) shapeCasts_S2x256x8x64_S2x256x512 := by
  show StableHlo.after hostOps0 (fun b => m (d, b)) (Proc.devRef .tc main_v2) = _
  after_results
  rfl

theorem qAt_apply (d : Dev nD) (b : Fin 2) (h : Fin 8) (ρ : Fin 256) (t : Fin 64) :
    qAt m d (ix4 b h ρ t) = argQ m d (ix4 b ρ h t) := by
  rw [qAt_eq]; pointwise []

theorem flat_apply (x : Vec F S2x256x8x64 .bf16) (b : Fin 2) (k : Fin 256) (h : Fin 8) (t : Fin 64) :
    shapeCast S2x256x512 x shapeCasts_S2x256x8x64_S2x256x512 (ix3 b k (col h t)) = x (ix4 b k h t) := by
  pointwise []
  congr 2 <;> exact Fin.ext (by dsimp only; omega)

/-- What a device packs: its keys and its values. -/
theorem pkAt_keys (d : Dev nD) (b : Fin 2) (k : Fin 256) (h : Fin 8) (t : Fin 64) :
    pkAt m d (ix3 b k (pcol 0 h t)) = argK m d (ix4 b k h t) := by
  show pkOf (kAt m d) (vAt m d) _ = _
  rw [pkOf_keys, kAt_eq, flat_apply]

theorem pkAt_values (d : Dev nD) (b : Fin 2) (k : Fin 256) (h : Fin 8) (t : Fin 64) :
    pkAt m d (ix3 b k (pcol 1 h t)) = argV m d (ix4 b k h t) := by
  show pkOf (kAt m d) (vAt m d) _ = _
  rw [pkOf_values, vAt_eq, flat_apply]

/-- The device whose keys and values `d` receives for batch entry `b`. -/
def peer (d : Dev nD) (b : Fin 2) : Dev nD := if b.val = (mx d).val then ypeer d else ypeer (xtwin d)

theorem got_apply (d : Dev nD) (b : Fin 2) (k : Fin 256) (c : Fin 1024) :
    got (pkAt m) d (ix3 b k c) = pkAt m (peer d b) (ix3 b k c) := by
  unfold got peer
  by_cases h : b.val = (mx d).val
  · rw [if_pos h, if_pos (show ((ix3 b k c : S2x256x1024.Idx) 0).val = _ from h)]
  · rw [if_neg h, if_neg (show ¬ ((ix3 b k c : S2x256x1024.Idx) 0).val = _ from h)]

end

/-! ## At the exact floats -/

/-- The scale, as the kernel's word. -/
abbrev scale : EReal := Ideal.ofBits .f32 0x3E000000#32

/-- The scaled score of a query against a key. -/
def score (q k : Vec Ideal S2x256x8x64 .bf16) (b : Fin 2) (h : Fin 8) (ρ x : Fin 256) : EReal :=
  (∑ t : Fin 64, (q (ix4 b ρ h t) * k (ix4 b x h t) : EReal)) * scale

theorem headVal_apply (q : Vec Ideal S2x8x256x64 .bf16) (v r : Vec Ideal S2x256x1024 .bf16) (b : Fin 2) (hh : Fin 4) (i : Fin 2)
    (ρ : Fin 256) (e : Fin 64) :
    headVal q v r b hh i (ix4 0 0 ρ e) =
      Ideal.div
        (∑ x : Fin 256, Ideal.exp ((∑ t : Fin 64, (q (ix4 b (headOf hh i) ρ t) * v (ix3 b x (pcol 0 (headOf hh i) t)) : EReal)) * scale) * v (ix3 b x (pcol 1 (headOf hh i) e))
          + ∑ x : Fin 256, Ideal.exp ((∑ t : Fin 64, (q (ix4 b (headOf hh i) ρ t) * r (ix3 b x (pcol 0 (headOf hh i) t)) : EReal)) * scale) * r (ix3 b x (pcol 1 (headOf hh i) e)))
        (∑ x : Fin 256, Ideal.exp ((∑ t : Fin 64, (q (ix4 b (headOf hh i) ρ t) * v (ix3 b x (pcol 0 (headOf hh i) t)) : EReal)) * scale)
          + ∑ x : Fin 256, Ideal.exp ((∑ t : Fin 64, (q (ix4 b (headOf hh i) ρ t) * r (ix3 b x (pcol 0 (headOf hh i) t)) : EReal)) * scale)) := by
  unfold headVal
  pointwise [headOut, mixed, norms, weights, queryOf, headAt]
  simp only [pairAt_apply, queryAt_apply]

/-- What the kernel returns. -/
theorem returned_apply (m : (ℓ : Loc nD τ sig) → Buf (Elt Ideal) ℓ) (d : Dev nD) (b : Fin 2) (ρ : Fin 256) (h : Fin 8) (e : Fin 64) :
    returned m d (ix4 b ρ h e) =
      Ideal.div
        (∑ x : Fin 256, Ideal.exp (score (argQ m d) (argK m d) b h ρ x) * argV m d (ix4 b x h e)
          + ∑ x : Fin 256, Ideal.exp (score (argQ m d) (argK m (peer d b)) b h ρ x) * argV m (peer d b) (ix4 b x h e))
        (∑ x : Fin 256, Ideal.exp (score (argQ m d) (argK m d) b h ρ x)
          + ∑ x : Fin 256, Ideal.exp (score (argQ m d) (argK m (peer d b)) b h ρ x)) := by
  obtain ⟨hh, i, rfl⟩ : ∃ (hh : Fin 4) (i : Fin 2), h = headOf hh i :=
    ⟨⟨h.val / 2, by omega⟩, ⟨h.val % 2, by omega⟩, Fin.ext (by show h.val = 2 * (h.val / 2) + h.val % 2; omega)⟩
  have e0 : returned m d (ix4 b ρ (headOf hh i) e) = headVal (qAt m d) (pkAt m d) (got (pkAt m) d) b hh i (ix4 0 0 ρ e) := by
    rw [← attOf_emb]
    unfold returned outAt result
    pointwise []
    refine congrArg _ ?_
    funext a
    apply Fin.ext
    match a with
    | 0 => show b.val = b.val + 1 * 0; omega
    | 1 => show 2 * hh.val + i.val = 2 * hh.val + i.val + 1 * 0; omega
    | 2 => show ρ.val = 0 + 1 * ρ.val; omega
    | 3 => show e.val = 0 + 1 * e.val; omega
  rw [e0, headVal_apply]
  simp only [got_apply, pkAt_keys, pkAt_values, qAt_apply]
  rfl

end Cert.KernelIdeal.Att

end
-- ==== Proof.Softmax.lean ====
/-
  The equation of the two programs, over the extended reals.

  For real scores `σ k` and any extended values `v k`, dividing the mixed values by the sum of the exponentials once
  gives what the reference gives: it takes the greatest score away from every score, divides every weight by the sum of
  the weights, and mixes the values by the quotients. The greatest score is real, so taking it away multiplies every
  exponential by one positive real number, which the quotients lose again.
-/
module

public import Idealize.ShloMosaic.PureOps.Ideal

@[expose] public section

noncomputable section

namespace Cert.Softmax

open Idealize.ShloMosaic

variable {n : ℕ}

/-- A sum of real numbers is real. -/
theorem sum_coe {ι : Type} (S : Finset ι) (f : ι → ℝ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- A real number that is not negative goes through a sum of any extended reals. -/
theorem sum_mul_coe {ι : Type} (S : Finset ι) (f : ι → EReal) {c : ℝ} (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha, ← ih]
    exact EReal.right_distrib_of_nonneg_of_ne_top (EReal.coe_nonneg.2 hc) (EReal.coe_ne_top c) _ _

/-- The greatest of some real numbers, one at least, is real. -/
theorem fold_max_coe (σ : Fin (n + 1) → ℝ) :
    ∃ μ : ℝ, Finset.univ.fold max (⊥ : EReal) (fun k => ((σ k : ℝ) : EReal)) = (μ : EReal) := by
  have h : ∀ S : Finset (Fin (n + 1)), S.Nonempty → ∃ μ : ℝ, S.fold max (⊥ : EReal) (fun k => ((σ k : ℝ) : EReal)) = (μ : EReal) := by
    intro S hS
    induction hS using Finset.Nonempty.cons_induction with
    | singleton a => exact ⟨σ a, by simp⟩
    | cons a S ha _ ih =>
      obtain ⟨μ, hμ⟩ := ih
      exact ⟨max (σ a) μ, by rw [Finset.fold_cons, hμ]; exact (EReal.coe_strictMono.monotone.map_max).symm⟩
  exact h _ Finset.univ_nonempty

/-- A quotient by a positive real is a product with its inverse. -/
theorem div_pos_coe (x : EReal) {L : ℝ} (hL : 0 < L) : Ideal.div x (L : EReal) = x * ((1 / L : ℝ) : EReal) :=
  Ideal.div_coe hL.ne' x

/-- Values mixed by the weights of real scores, over the sum of the weights. -/
def mix {ι : Type} [Fintype ι] (s v : ι → EReal) : EReal :=
  Ideal.div (∑ k, Ideal.exp (s k) * v k) (∑ k, Ideal.exp (s k))

/-- The reference's way to the same number. -/
theorem mix_eq (s v : Fin (n + 1) → EReal) (hs : ∀ k, ∃ r : ℝ, s k = (r : EReal)) :
    ∑ k, v k * Ideal.div (Ideal.exp (s k - Finset.univ.fold max (⊥ : EReal) s))
        (∑ j, Ideal.exp (s j - Finset.univ.fold max (⊥ : EReal) s)) = mix s v := by
  obtain ⟨σ, rfl⟩ : ∃ σ : Fin (n + 1) → ℝ, s = fun k => ((σ k : ℝ) : EReal) :=
    ⟨fun k => (hs k).choose, funext fun k => (hs k).choose_spec⟩
  obtain ⟨μ, hμ⟩ := fold_max_coe σ
  have hL : 0 < ∑ k, Real.exp (σ k) := Finset.sum_pos (fun k _ => Real.exp_pos _) Finset.univ_nonempty
  have hM : 0 < ∑ k, Real.exp (σ k - μ) := Finset.sum_pos (fun k _ => Real.exp_pos _) Finset.univ_nonempty
  have hq : ∀ k, Real.exp (σ k - μ) * (1 / ∑ j, Real.exp (σ j - μ)) = Real.exp (σ k) * (1 / ∑ j, Real.exp (σ j)) := by
    intro k
    have e : ∑ j, Real.exp (σ j - μ) = (∑ j, Real.exp (σ j)) * Real.exp (-μ) := by
      rw [Finset.sum_mul]
      exact Finset.sum_congr rfl fun j _ => by rw [sub_eq_add_neg, Real.exp_add]
    rw [e, sub_eq_add_neg, Real.exp_add]
    have := Real.exp_pos (-μ)
    field_simp
  unfold mix
  simp only [hμ, ← EReal.coe_sub, Ideal.exp_coe, sum_coe]
  rw [div_pos_coe _ hL, sum_mul_coe _ _ (by positivity)]
  refine Finset.sum_congr rfl fun k _ => ?_
  rw [div_pos_coe _ hM, ← EReal.coe_mul, hq, EReal.coe_mul, ← mul_assoc, mul_comm (v k)]

/-- The keys in two halves, whichever comes first. -/
theorem mix_halves {N : ℕ} (s v : Fin (N + N) → EReal) (s₁ v₁ s₂ v₂ : Fin N → EReal)
    (h : ((∀ k, s₁ k = s (Fin.castAdd N k) ∧ v₁ k = v (Fin.castAdd N k)) ∧ ∀ k, s₂ k = s (Fin.natAdd N k) ∧ v₂ k = v (Fin.natAdd N k))
      ∨ ((∀ k, s₁ k = s (Fin.natAdd N k) ∧ v₁ k = v (Fin.natAdd N k)) ∧ ∀ k, s₂ k = s (Fin.castAdd N k) ∧ v₂ k = v (Fin.castAdd N k))) :
    Ideal.div (∑ k, Ideal.exp (s₁ k) * v₁ k + ∑ k, Ideal.exp (s₂ k) * v₂ k) (∑ k, Ideal.exp (s₁ k) + ∑ k, Ideal.exp (s₂ k)) = mix s v := by
  unfold mix
  rw [Fin.sum_univ_add, Fin.sum_univ_add]
  rcases h with ⟨h₁, h₂⟩ | ⟨h₁, h₂⟩
  · simp only [h₁, h₂]
  · simp only [h₁, h₂]
    rw [add_comm (∑ k, Ideal.exp (s (Fin.natAdd N k)) * v (Fin.natAdd N k)), add_comm (∑ k, Ideal.exp (s (Fin.natAdd N k)))]

end Cert.Softmax

end
-- ==== Proof.Answer.lean ====
/-
  The reference's result, named step by step, and read at an index.

  At the exact floats and for real scores, an element of the result is the head's values mixed by the weights of the
  query's scores against all 512 keys (`Softmax.mix`).
-/
module

public import proofs.«01_k».proof.Proof.Softmax
public import proofs.«01_k».proof.Proof.Gen.ReferenceIdeal.Run
public import Idealize.ShloMosaic.Lib.Pointwise

@[expose] public section

set_option maxRecDepth 16384

noncomputable section

namespace Cert.ReferenceIdeal.Answer

open Cert.ReferenceIdeal Cert.ReferenceIdeal.Gen
open Idealize.ShloMosaic Idealize.ShloMosaic.TcCoe Idealize.SL.Sem

variable {F : FTy → Type} [FloatOps F]

/-- The scaled scores of every query against every key. -/
def scores (q k : Vec F S2x512x8x64 .bf16) : Vec F S2x8x512x512 .f32 :=
  mulf (Host.dotGeneral dot_S2x512x8x64_S2x512x8x64_S2x8x512x512_3_3_1_1_02_02 none (extf .f32 q bitsLt_bf16_f32) (extf .f32 k bitsLt_bf16_f32))
    (broadcastInDim S2x8x512x512 ![] bcast_S_S2x8x512x512 (constant S_ .f32 0x3E000000#32))

/-- One number per query, for each of the keys. -/
def along (x : Vec F S2x8x512 .f32) : Vec F S2x8x512x512 .f32 :=
  broadcastInDim S2x8x512x512 ![0, 1, 2, 3] bcast_S2x8x512x1_S2x8x512x512_0_1_2_3 (broadcastInDim S2x8x512x1 ![0, 1, 2] bcast_S2x8x512_S2x8x512x1_0_1_2 x)

/-- The greatest score of each query. -/
def greatest (s : Vec F S2x8x512x512 .f32) : Vec F S2x8x512 .f32 :=
  Host.reduce FloatOps.maximumf s (constant S_ .f32 0xFF800000#32) reducesTo_S2x8x512x512_S2x8x512_d3 h_S_

/-- The exponentials of the scores less the greatest. -/
def weights (s : Vec F S2x8x512x512 .f32) : Vec F S2x8x512x512 .f32 := Host.exp (subf s (along (greatest s)))

/-- Their sums over the keys. -/
def sums (p : Vec F S2x8x512x512 .f32) : Vec F S2x8x512 .f32 :=
  Host.reduceAdd p (constant S_ .f32 0x00000000#32) reducesTo_S2x8x512x512_S2x8x512_d3 h_S_

/-- The result. -/
def answer (q k v : Vec F S2x512x8x64 .bf16) : Vec F S2x512x8x64 .f32 :=
  transpose S2x512x8x64 [0, 3, 1, 2] (Host.dotGeneral dot_S2x512x8x64_S2x8x512x512_S2x8x64x512_1_3_3_2_02_01 none (extf .f32 v bitsLt_bf16_f32)
    (Host.divf (weights (scores q k)) (along (sums (weights (scores q k)))))) transposes_S2x8x64x512_S2x512x8x64_0_3_1_2

/-- What the reference ends with. -/
theorem run_answer (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v16)
          = answer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Value.run m ρ

/-! ## At the exact floats -/

/-- The word of minus infinity. -/
theorem bot_word : Ideal.ofBits .f32 0xFF800000#32 = ⊥ := by simp [Ideal.ofBits, Ideal.ieee]

/-- The scale, as the word that both programs have. -/
abbrev scale : EReal := Ideal.ofBits .f32 0x3E000000#32

theorem scale_real : ∃ c : ℝ, scale = (c : EReal) := by
  refine ⟨1 / 8, ?_⟩
  simp [scale, Ideal.ofBits, Ideal.ieee]
  rw [← EReal.coe_mul]
  norm_num

theorem scores_apply (q k : Vec Ideal S2x512x8x64 .bf16) (b : Fin 2) (h : Fin 8) (r x : Fin 512) :
    scores q k (ix4 b h r x) = (∑ t : Fin 64, (q (ix4 b r h t) * k (ix4 b x h t) : EReal)) * scale := by
  pointwise [scores]

theorem answer_apply (q k v : Vec Ideal S2x512x8x64 .bf16) (b : Fin 2) (r : Fin 512) (h : Fin 8) (e : Fin 64)
    (hs : ∀ x, ∃ c : ℝ, scores q k (ix4 b h r x) = (c : EReal)) :
    answer q k v (ix4 b r h e) = Softmax.mix (fun x : Fin 512 => scores q k (ix4 b h r x)) (fun x : Fin 512 => v (ix4 b x h e)) := by
  rw [← Softmax.mix_eq (n := 511) _ _ hs]
  pointwise [answer, weights, sums, along, greatest]
  rw [bot_word]

end Cert.ReferenceIdeal.Answer

end
-- ==== Proof.Tie.lean ====
/-
  Each device's result is its part of the reference's.

  The sequence is cut along `y`: a device holds half `side d` of the queries, the keys and the values, and the device
  it receives from holds the other half. So the two sums of the kernel are the reference's sum over all 512 keys, in one
  order or the other (`Softmax.mix_halves`). The queries and the keys are real by the claim's precondition, hence so
  are the scores, which is what `Softmax.mix_eq` asks for; the values may be any extended reals.
-/
module

public import proofs.«01_k».proof.Defs
public import proofs.«01_k».proof.Proof.Value
public import proofs.«01_k».proof.Proof.Answer

@[expose] public section

set_option maxRecDepth 16384

noncomputable section

namespace Cert.Tie

open Cert.KernelIdeal Cert.KernelIdeal.Att
open Idealize.ShloMosaic Idealize.ShloMosaic.TcCoe Idealize.SL.Sem
open Cert.ReferenceIdeal.Answer (scores answer scores_apply answer_apply scale_real)

/-- One argument of a device, and the whole array. -/
abbrev Part : Type := Vec Ideal S2x256x8x64 .bf16
abbrev Whole : Type := Vec Ideal Cert.ReferenceIdeal.S2x512x8x64 .bf16

/-! ## Where a device's part lies -/

/-- A device's place along `y`. -/
def side (d : Dev nD) : Fin 2 := ⟨d.val / 4 % 2, by omega⟩

/-- Position `k` of half `s`. -/
def lift (s : Fin 2) (k : Fin 256) : Fin 512 := ⟨256 * s.val + k.val, by omega⟩

theorem side_peer : ∀ (d : Dev nD) (b : Fin 2), side (peer d b) = 1 - side d := by decide

theorem lift_zero (k : Fin 256) : lift 0 k = Fin.castAdd 256 k := Fin.ext (by show 256 * 0 + k.val = k.val; omega)
theorem lift_one (k : Fin 256) : lift 1 k = Fin.natAdd 256 k := Fin.ext (by show 256 * 1 + k.val = 256 + k.val; omega)

/-- The part of a whole array that a device holds. -/
abbrev part {α : Type} (d : Dev nD) (w : (⟨4, ![2, 512, 8, 64]⟩ : Shape).Idx → α) : (⟨4, ![2, 256, 8, 64]⟩ : Shape).Idx → α :=
  Layout.blockN ⟨4, ![2, 256, 8, 64]⟩ ⟨4, ![2, 512, 8, 64]⟩ (Layout.meshBlock [2, 2, 4] ![[], [1], [], []] d) w

theorem meshLin_y (d : ℕ) : Layout.meshLin [2, 2, 4] d [1] = d / 4 % 2 := by
  show d / 4 % 2 * 1 + 0 = _
  omega

theorem part_apply {α : Type} (d : Dev nD) (w : (⟨4, ![2, 512, 8, 64]⟩ : Shape).Idx → α) (b : Fin 2) (k : Fin 256) (h : Fin 8) (t : Fin 64) :
    part d w (ix4 b k h t) = w (ix4 b (lift (side d) k) h t) := by
  refine congrArg w ?_
  funext a
  apply Fin.ext
  match a with
  | 0 => show 0 * 2 + b.val = b.val; omega
  | 1 =>
    show Layout.meshLin [2, 2, 4] d.val [1] * 256 + k.val = 256 * (d.val / 4 % 2) + k.val
    rw [meshLin_y, Nat.mul_comm]
  | 2 => show 0 * 8 + h.val = h.val; omega
  | 3 => show 0 * 64 + t.val = t.val; omega

/-! ## Real scores -/

/-- An array of real numbers. -/
def Finite (x : Part) : Prop := ∀ i, ∃ c : ℝ, (x i : EReal) = (c : EReal)

theorem score_real {q k : Part} (hq : Finite q) (hk : Finite k) (b : Fin 2) (h : Fin 8) (ρ x : Fin 256) :
    ∃ c : ℝ, score q k b h ρ x = (c : EReal) := by
  obtain ⟨s, hs⟩ := scale_real
  choose f hf using hq
  choose g hg using hk
  refine ⟨(∑ t : Fin 64, f (ix4 b ρ h t) * g (ix4 b x h t)) * s, ?_⟩
  unfold score
  rw [EReal.coe_mul, ← Softmax.sum_coe]
  refine congrArg₂ (· * ·) (Finset.sum_congr rfl fun t _ => ?_) hs
  rw [hf, hg, EReal.coe_mul]

/-- An extended real whose absolute value is below the top is real. -/
theorem real_of_lt (x : EReal) (h : max x (-x) < ⊤) : ∃ c : ℝ, x = (c : EReal) := by
  induction x with
  | bot => simp at h
  | coe c => exact ⟨c, rfl⟩
  | top => simp at h

theorem top_word : Ideal.ofBits .bf16 0x7F80#16 = ⊤ := by simp [Ideal.ofBits, Ideal.ieee]

/-- Two bits whose conjunction is one. -/
theorem both : ∀ {x y : Bool}, IntOp.andi (BitVec.ofBool x) (BitVec.ofBool y) = 1#1 → x = true ∧ y = true := by decide

/-- The precondition, read. -/
theorem real_of_finite [Cert.Pre_finite_KernelIdeal.Facts] (q k v : Part) (h : Cert.Pre_finite_KernelIdeal.fn (F := Ideal) q k v = fun _ => 1#1) :
    Finite q ∧ Finite k := by
  have H : ∀ i, (∃ c : ℝ, (q i : EReal) = (c : EReal)) ∧ ∃ c : ℝ, (k i : EReal) = (c : EReal) := by
    intro i
    have hi := congrFun h i
    pointwise [Cert.Pre_finite_KernelIdeal.fn] at hi
    rw [top_word] at hi
    obtain ⟨h₁, h₂⟩ := both hi
    exact ⟨real_of_lt _ (of_decide_eq_true h₁), real_of_lt _ (of_decide_eq_true h₂)⟩
  exact ⟨fun i => (H i).1, fun i => (H i).2⟩

/-! ## The tie -/

section
variable (m : (ℓ : Loc nD τ sig) → Buf (Elt Ideal) ℓ) (q k v : Whole)
variable (hq : ∀ d, argQ m d = part d q) (hk : ∀ d, argK m d = part d k) (hv : ∀ d, argV m d = part d v)
include hq hk

theorem score_lift (d d' : Dev nD) (b : Fin 2) (h : Fin 8) (ρ x : Fin 256) :
    score (argQ m d) (argK m d') b h ρ x = scores q k (ix4 b h (lift (side d) ρ) (lift (side d') x)) := by
  unfold score
  rw [scores_apply, hq, hk]
  simp only [part_apply]

include hv

theorem returned_part (rq : ∀ d, Finite (argQ m d)) (rk : ∀ d, Finite (argK m d)) (d : Dev nD) : returned m d = part d (answer q k v) := by
  funext i
  obtain ⟨b, ρ, h, e, rfl⟩ : ∃ (b : Fin 2) (ρ : Fin 256) (h : Fin 8) (e : Fin 64), i = ix4 b ρ h e := ⟨i 0, i 1, i 2, i 3, eq_ix4 i⟩
  have own : ∀ x, score (argQ m d) (argK m d) b h ρ x = scores q k (ix4 b h (lift (side d) ρ) (lift (side d) x)) :=
    fun x => score_lift m q k hq hk d d b h ρ x
  have far : ∀ x, score (argQ m d) (argK m (peer d b)) b h ρ x = scores q k (ix4 b h (lift (side d) ρ) (lift (1 - side d) x)) :=
    fun x => by rw [score_lift m q k hq hk, side_peer]
  have ownV : ∀ x, argV m d (ix4 b x h e) = v (ix4 b (lift (side d) x) h e) := fun x => by rw [hv, part_apply]
  have farV : ∀ x, argV m (peer d b) (ix4 b x h e) = v (ix4 b (lift (1 - side d) x) h e) := fun x => by rw [hv, part_apply, side_peer]
  have r₁ := fun x => score_real (rq d) (rk d) b h ρ x
  have r₂ := fun x => score_real (rq d) (rk (peer d b)) b h ρ x
  rw [returned_apply, part_apply]
  generalize lift (side d) ρ = r at own far ⊢
  have hs : ∀ x : Fin 512, ∃ c : ℝ, scores q k (ix4 b h r x) = (c : EReal) := by
    intro x
    refine Fin.addCases (m := 256) (n := 256) (motive := fun x : Fin 512 => ∃ c : ℝ, scores q k (ix4 b h r x) = (c : EReal)) (fun x => ?_) (fun x => ?_) x
    · rw [← lift_zero]
      rcases Fin.exists_fin_two.1 ⟨side d, rfl⟩ with z | z
      · rw [← z, ← own]; exact r₁ x
      · rw [show (0 : Fin 2) = 1 - side d by rw [z]; rfl, ← far]; exact r₂ x
    · rw [← lift_one]
      rcases Fin.exists_fin_two.1 ⟨side d, rfl⟩ with z | z
      · rw [show (1 : Fin 2) = 1 - side d by rw [z]; rfl, ← far]; exact r₂ x
      · rw [← z, ← own]; exact r₁ x
  rw [answer_apply q k v b r h e hs]
  refine Softmax.mix_halves (N := 256) _ _ _ _ _ _ ?_
  rcases Fin.exists_fin_two.1 ⟨side d, rfl⟩ with z | z
  · refine .inl ⟨fun x => ?_, fun x => ?_⟩
    · rw [own, ownV, z, lift_zero]; exact ⟨rfl, rfl⟩
    · rw [far, farV, z, show (1 - 0 : Fin 2) = 1 from rfl, lift_one]; exact ⟨rfl, rfl⟩
  · refine .inr ⟨fun x => ?_, fun x => ?_⟩
    · rw [own, ownV, z, lift_one]; exact ⟨rfl, rfl⟩
    · rw [far, farV, z, show (1 - 1 : Fin 2) = 0 from rfl, lift_zero]; exact ⟨rfl, rfl⟩

end

end Cert.Tie

end
-- ==== Proof.Algebraic.lean ====
/-
  The algebraic claim: from one set of whole arrays, the reference ends with the whole answer and each device ends with
  its part of it. `Att.run_main` says what each device returns, `Answer.run_answer` what the reference returns, and
  `Tie.returned_part` that the first is a part of the second.
-/
module

public import proofs.«01_k».proof.Defs
public import proofs.«01_k».proof.Proof.Run
public import proofs.«01_k».proof.Proof.Tie

@[expose] public section

noncomputable section

namespace Cert.Proof

open Idealize.ShloMosaic Idealize.SL.Sem

/-- The side conditions of the predicate over one device's blocks. -/
theorem facts_blocks : Cert.Pre_finite_KernelIdeal.Facts := ⟨by decide⟩

/-- And over the reference's arrays. -/
theorem facts_arrays : Cert.Pre_finite_ReferenceIdeal.Facts := ⟨by decide⟩

theorem algebraic :
    Cert.algebraic_KernelIdeal_ReferenceIdeal_pre_finite_KernelIdeal (hPre_finite_KernelIdeal := facts_blocks) := by
  intro m g m' g' pre parts
  have fin : ∀ d, Tie.Finite (Cert.KernelIdeal.Att.argQ m d) ∧ Tie.Finite (Cert.KernelIdeal.Att.argK m d) :=
    fun d => @Tie.real_of_finite facts_blocks _ _ _ (pre d)
  refine ⟨Cert.ReferenceIdeal.Answer.answer
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun _ h d => ⟨(h.1 d).2.trans ?_, (h.1 d).1⟩)
      (Cert.KernelIdeal.Att.run_main (F := Ideal) m g)
    exact Tie.returned_part m _ _ _ (fun d => (parts d).1) (fun d => (parts d).2.1) (fun d => (parts d).2.2)
      (fun d => (fin d).1) (fun d => (fin d).2) d
  · exact (θ_run Cert.ReferenceIdeal.defs _ _).mono (fun _ h => h 0) (Cert.ReferenceIdeal.Answer.run_answer (F := Ideal) m' g')

end Cert.Proof

end
-- ==== Proof.lean ====
/-
  The certificate of the attention kernel on a mesh of sixteen devices.

  The frames are in `Proof.Frames`; they come from one run of the kernel, proved in `Proof.Run` for any float values.
  The idealization rewrote nothing, so there is nothing to show of it. That the kernel computes the reference's answer is
  in `Proof.Algebraic`. A frame under a precondition is the frame without it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, facts_blocks, facts_arrays,
    frame_kernel, frame_ideal, fun m g _ => frame_ideal m g trivial, frame_reference, fun m g _ => frame_reference m g trivial,
    trivial, algebraic⟩

end Cert.Proof

end
